-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_image [hPre_finite_image : Cert.Pre_finite_image.Facts] (m : (ℓ : Loc Cert.KernelIdeal.nD Cert.KernelIdeal.τ Cert.KernelIdeal.sig) → Buf (Elt Ideal) ℓ) : Prop :=
  ∀ c : Dev Cert.KernelIdeal.nD,
    (Cert.Pre_finite_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_KernelIdeal_unit_image [hPre_unit_image : Cert.Pre_unit_image.Facts] (m : (ℓ : Loc Cert.KernelIdeal.nD Cert.KernelIdeal.τ Cert.KernelIdeal.sig) → Buf (Elt Ideal) ℓ) : Prop :=
  ∀ c : Dev Cert.KernelIdeal.nD,
    (Cert.Pre_unit_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_unit_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_unit_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_unit_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_unit_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_image [hPre_finite_image : Cert.Pre_finite_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_image [hKernelIdeal : Cert.KernelIdeal.Facts] [hPre_finite_image : Cert.Pre_finite_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_image m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_unit_image [hKernelIdeal : Cert.KernelIdeal.Facts] [hPre_unit_image : Cert.Pre_unit_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_image m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_image [hReferenceIdeal : Cert.ReferenceIdeal.Facts] [hPre_finite_image : Cert.Pre_finite_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_image m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "a" .f32 0xB8A3D70A#32 ((-1 / 12800 : ℝ) : EReal)
  ∧ IdealRules.named_const.Statement Cert.KernelIdeal.κ "c" .f32 0xBD638E39#32 ((-1 / 18 : ℝ) : EReal)
  ∧ IdealRules.named_const.Statement Cert.KernelIdeal.κ "s2" .f32 0x3F3504F3#32 (((Real.sqrt 2)⁻¹ : ℝ) : EReal)
  ∧ IdealRules.named_const.Statement Cert.KernelIdeal.κ "s3" .f32 0x3F13CD3A#32 (((Real.sqrt 3)⁻¹ : ℝ) : EReal)
  ∧ IdealRules.named_const.Statement Cert.KernelIdeal.κ "s5" .f32 0x3EE4F92E#32 (((Real.sqrt 5)⁻¹ : ℝ) : EReal)
  ∧ IdealRules.named_const.Statement Cert.KernelIdeal.κ "s6" .f32 0x3ED105EC#32 (((Real.sqrt 6)⁻¹ : ℝ) : EReal)
  ∧ IdealRules.named_const.Statement Cert.KernelIdeal.κ "s7" .f32 0x3EC1848F#32 (((Real.sqrt 7)⁻¹ : ℝ) : EReal)
  ∧ IdealRules.named_const.Statement Cert.KernelIdeal.κ "s8" .f32 0x3EB504F3#32 (((Real.sqrt 8)⁻¹ : ℝ) : EReal)
  ∧ IdealRules.named_const.Statement Cert.KernelIdeal.κ "r3" .f32 0x3EAAAAAB#32 ((1 / 3 : ℝ) : EReal)
  ∧ IdealRules.named_const.Statement Cert.KernelIdeal.κ "s10" .f32 0x3EA1E89B#32 (((Real.sqrt 10)⁻¹ : ℝ) : EReal)
  ∧ IdealRules.named_const.Statement Cert.KernelIdeal.κ "s11" .f32 0x3E9A5FB2#32 (((Real.sqrt 11)⁻¹ : ℝ) : EReal)
  ∧ IdealRules.named_const.Statement Cert.KernelIdeal.κ "s12" .f32 0x3E93CD3A#32 (((Real.sqrt 12)⁻¹ : ℝ) : EReal)
  ∧ IdealRules.named_const.Statement Cert.KernelIdeal.κ "s13" .f32 0x3E8E00D5#32 (((Real.sqrt 13)⁻¹ : ℝ) : EReal)
  ∧ IdealRules.named_const.Statement Cert.KernelIdeal.κ "s14" .f32 0x3E88D677#32 (((Real.sqrt 14)⁻¹ : ℝ) : EReal)
  ∧ IdealRules.named_const.Statement Cert.KernelIdeal.κ "s15" .f32 0x3E8432A5#32 (((Real.sqrt 15)⁻¹ : ℝ) : EReal)

def algebraic_KernelIdeal_ReferenceIdeal_pre_finite_image [hKernelIdeal : Cert.KernelIdeal.Facts] [hReferenceIdeal : Cert.ReferenceIdeal.Facts] [hPre_finite_image : Cert.Pre_finite_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_image m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_close_pre_unit_image [hKernelIdeal : Cert.KernelIdeal.Facts] [hPre_unit_image : Cert.Pre_unit_image.Facts] [hPost_close : Cert.Post_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_image m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v4))) = (fun _ => 1#1))

def Claim : Prop :=
  ∃ (hKernel : Cert.Kernel.Facts) (hKernelIdeal : Cert.KernelIdeal.Facts) (hReferenceIdeal : Cert.ReferenceIdeal.Facts) (hPre_finite_image : Cert.Pre_finite_image.Facts) (hPre_unit_image : Cert.Pre_unit_image.Facts) (hPost_close : Cert.Post_close.Facts),
    quiescent_Kernel (hKernel := hKernel)
    ∧ quiescent_KernelIdeal (hKernelIdeal := hKernelIdeal)
    ∧ quiescent_KernelIdeal_pre_finite_image (hKernelIdeal := hKernelIdeal) (hPre_finite_image := hPre_finite_image)
    ∧ quiescent_KernelIdeal_pre_unit_image (hKernelIdeal := hKernelIdeal) (hPre_unit_image := hPre_unit_image)
    ∧ quiescent_ReferenceIdeal (hReferenceIdeal := hReferenceIdeal)
    ∧ quiescent_ReferenceIdeal_pre_finite_image (hReferenceIdeal := hReferenceIdeal) (hPre_finite_image := hPre_finite_image)
    ∧ preserves_Kernel_KernelIdeal
    ∧ algebraic_KernelIdeal_ReferenceIdeal_pre_finite_image (hKernelIdeal := hKernelIdeal) (hReferenceIdeal := hReferenceIdeal) (hPre_finite_image := hPre_finite_image)
    ∧ holds_KernelIdeal_close_pre_unit_image (hKernelIdeal := hKernelIdeal) (hPre_unit_image := hPre_unit_image) (hPost_close := hPost_close)
-- ==== Post_close.lean ====
abbrev S1x16x16x16x16 : Shape := ⟨5, ![1, 16, 16, 16, 16]⟩
abbrev S1x1x16x16x16 : Shape := ⟨5, ![1, 1, 16, 16, 16]⟩
abbrev S16x16 : Shape := ⟨2, ![16, 16]⟩
abbrev S16x4096 : Shape := ⟨2, ![16, 4096]⟩
abbrev S16 : Shape := ⟨1, ![16]⟩
abbrev S16x16x16 : Shape := ⟨3, ![16, 16, 16]⟩
abbrev S16x16x16x1 : Shape := ⟨4, ![16, 16, 16, 1]⟩
abbrev S16x16x16x3 : Shape := ⟨4, ![16, 16, 16, 3]⟩
abbrev S4096x3 : Shape := ⟨2, ![4096, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S16x16x16x16 : Shape := ⟨4, ![16, 16, 16, 16]⟩
abbrev S16x4096x1 : Shape := ⟨3, ![16, 4096, 1]⟩
abbrev S1x4096x4096 : Shape := ⟨3, ![1, 4096, 4096]⟩
abbrev S16x4096x4096 : Shape := ⟨3, ![16, 4096, 4096]⟩
abbrev S16x16x1 : Shape := ⟨3, ![16, 16, 1]⟩
abbrev S1x16x4096 : Shape := ⟨3, ![1, 16, 4096]⟩
abbrev S16x16x4096 : Shape := ⟨3, ![16, 16, 4096]⟩

class Facts : Prop where
  bcast_S16_S16x16x16_0 : S16.BroadcastsInDim S16x16x16 (![0] : Fin 1 → Fin S16x16x16.rank)
  bcast_S16_S16x16x16_1 : S16.BroadcastsInDim S16x16x16 (![1] : Fin 1 → Fin S16x16x16.rank)
  bcast_S16_S16x16x16_2 : S16.BroadcastsInDim S16x16x16 (![2] : Fin 1 → Fin S16x16x16.rank)
  bcast_S16x16x16_S16x16x16x1_0_1_2 : S16x16x16.BroadcastsInDim S16x16x16x1 (![0, 1, 2] : Fin 3 → Fin S16x16x16x1.rank)
  concatenates_S16x16x16x1_S16x16x16x1_S16x16x16x1_S16x16x16x3_d3 : Shape.Concatenates [S16x16x16x1, S16x16x16x1, S16x16x16x1] S16x16x16x3 3
  shapeCasts_S16x16x16x3_S4096x3 : S16x16x16x3.ShapeCasts S4096x3
  bcast_S4096x3_S4096x1x3_0_2 : S4096x3.BroadcastsInDim S4096x1x3 (![0, 2] : Fin 2 → Fin S4096x1x3.rank)
  bcast_S4096x3_S1x4096x3_1_2 : S4096x3.BroadcastsInDim S1x4096x3 (![1, 2] : Fin 2 → Fin S1x4096x3.rank)
  bcast_S4096x1x3_S4096x4096x3_0_1_2 : S4096x1x3.BroadcastsInDim S4096x4096x3 (![0, 1, 2] : Fin 3 → Fin S4096x4096x3.rank)
  bcast_S1x4096x3_S4096x4096x3_0_1_2 : S1x4096x3.BroadcastsInDim S4096x4096x3 (![0, 1, 2] : Fin 3 → Fin S4096x4096x3.rank)
  reducesTo_S4096x4096x3_S4096x4096_d2 : S4096x4096x3.ReducesTo [2] S4096x4096
  h_S_ : 0 < S_.numel
  shapeCasts_S1x1x16x16x16_S4096 : S1x1x16x16x16.ShapeCasts S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  shapeCasts_S1x16x16x16x16_S16x16x16x16 : S1x16x16x16x16.ShapeCasts S16x16x16x16
  shapeCasts_S16x16x16x16_S16x4096 : S16x16x16x16.ShapeCasts S16x4096
  reducesTo_S16x4096_S4096_d0 : S16x4096.ReducesTo [0] S4096
  bcast_S_S4096 : S_.BroadcastsInDim S4096 (![] : Fin 0 → Fin S4096.rank)
  bcast_S1x4096_S16x4096_0_1 : S1x4096.BroadcastsInDim S16x4096 (![0, 1] : Fin 2 → Fin S16x4096.rank)
  bcast_S16x4096_S16x4096x1_0_1 : S16x4096.BroadcastsInDim S16x4096x1 (![0, 1] : Fin 2 → Fin S16x4096x1.rank)
  bcast_S4096x4096_S1x4096x4096_1_2 : S4096x4096.BroadcastsInDim S1x4096x4096 (![1, 2] : Fin 2 → Fin S1x4096x4096.rank)
  bcast_S16x4096x1_S16x4096x4096_0_1_2 : S16x4096x1.BroadcastsInDim S16x4096x4096 (![0, 1, 2] : Fin 3 → Fin S16x4096x4096.rank)
  bcast_S1x4096x4096_S16x4096x4096_0_1_2 : S1x4096x4096.BroadcastsInDim S16x4096x4096 (![0, 1, 2] : Fin 3 → Fin S16x4096x4096.rank)
  reducesTo_S16x4096x4096_S16x4096_d1 : S16x4096x4096.ReducesTo [1] S16x4096
  reducesTo_S4096x4096_S4096_d1 : S4096x4096.ReducesTo [1] S4096
  bcast_S16x16_S16x16x1_0_1 : S16x16.BroadcastsInDim S16x16x1 (![0, 1] : Fin 2 → Fin S16x16x1.rank)
  bcast_S16x4096_S1x16x4096_1_2 : S16x4096.BroadcastsInDim S1x16x4096 (![1, 2] : Fin 2 → Fin S1x16x4096.rank)
  bcast_S16x16x1_S16x16x4096_0_1_2 : S16x16x1.BroadcastsInDim S16x16x4096 (![0, 1, 2] : Fin 3 → Fin S16x16x4096.rank)
  bcast_S1x16x4096_S16x16x4096_0_1_2 : S1x16x4096.BroadcastsInDim S16x16x4096 (![0, 1, 2] : Fin 3 → Fin S16x16x4096.rank)
  reducesTo_S16x16x4096_S16x4096_d1 : S16x16x4096.ReducesTo [1] S16x4096
  bcast_S_S16x4096 : S_.BroadcastsInDim S16x4096 (![] : Fin 0 → Fin S16x4096.rank)

variable [Facts]

def fn_part5 {F : FTy → Type} [FloatOps F] (main_v102 : FVec F S16x4096 .f32) : IVec S16x4096 1 :=
  let main_cst_16 : FVec F S_ .f32 := constant S_ .f32 0x3C000000#32
  let main_v103 : FVec F S16x4096 .f32 := broadcastInDim S16x4096 ![] bcast_S_S16x4096 main_cst_16
  let main_v104 : IVec S16x4096 1 := cmpf .ole main_v102 main_v103
  main_v104

def fn_part4 {F : FTy → Type} [FloatOps F] (main_arg4 : FVec F S16x16 .f32) (main_arg5 : FVec F S16x4096 .f32) (main_v38 : FVec F S16x4096 .f32) (main_v82 : FVec F S16x4096 .f32) : IVec S16x4096 1 :=
  let main_v83 : FVec F S16x16x1 .f32 := broadcastInDim S16x16x1 ![0, 1] bcast_S16x16_S16x16x1_0_1 main_arg4
  let main_v84 : FVec F S1x16x4096 .f32 := broadcastInDim S1x16x4096 ![1, 2] bcast_S16x4096_S1x16x4096_1_2 main_v82
  let main_v85 : FVec F S16x16x4096 .f32 := broadcastInDim S16x16x4096 ![0, 1, 2] bcast_S16x16x1_S16x16x4096_0_1_2 main_v83
  let main_v86 : FVec F S16x16x4096 .f32 := broadcastInDim S16x16x4096 ![0, 1, 2] bcast_S1x16x4096_S16x16x4096_0_1_2 main_v84
  let main_v87 : FVec F S16x16x4096 .f32 := mulf main_v85 main_v86
  let main_cst_12 : FVec F S_ .f32 := constant S_ .f32 0x00000000#32
  let main_v88 : FVec F S16x4096 .f32 := (fun x v => Host.reduceAdd x v reducesTo_S16x16x4096_S16x4096_d1 h_S_) main_v87 main_cst_12
  let main_v89 : FVec F S16x4096 .f32 := addf main_v38 main_v88
  let main_cst_13 : FVec F S_ .f32 := constant S_ .f32 0xFF800000#32
  let main_v90 : FVec F S4096 .f32 := (fun x v => Host.reduce FloatOps.maximumf x v reducesTo_S16x4096_S4096_d0 h_S_) main_v89 main_cst_13
  let main_cst_14 : FVec F S_ .f32 := constant S_ .f32 0xFF800000#32
  let main_v91 : FVec F S4096 .f32 := broadcastInDim S4096 ![] bcast_S_S4096 main_cst_14
  let main_v92 : FVec F S4096 .f32 := maximumf main_v91 main_v90
  let main_v93 : FVec F S1x4096 .f32 := broadcastInDim S1x4096 ![1] bcast_S4096_S1x4096_1 main_v92
  let main_v94 : FVec F S16x4096 .f32 := broadcastInDim S16x4096 ![0, 1] bcast_S1x4096_S16x4096_0_1 main_v93
  let main_v95 : FVec F S16x4096 .f32 := subf main_v89 main_v94
  let main_v96 : FVec F S16x4096 .f32 := Host.exp main_v95
  let main_cst_15 : FVec F S_ .f32 := constant S_ .f32 0x00000000#32
  let main_v97 : FVec F S4096 .f32 := (fun x v => Host.reduceAdd x v reducesTo_S16x4096_S4096_d0 h_S_) main_v96 main_cst_15
  let main_v98 : FVec F S1x4096 .f32 := broadcastInDim S1x4096 ![1] bcast_S4096_S1x4096_1 main_v97
  let main_v99 : FVec F S16x4096 .f32 := broadcastInDim S16x4096 ![0, 1] bcast_S1x4096_S16x4096_0_1 main_v98
  let main_v100 : FVec F S16x4096 .f32 := Host.divf main_v96 main_v99
  let main_v101 : FVec F S16x4096 .f32 := subf main_arg5 main_v100
  let main_v102 : FVec F S16x4096 .f32 := Host.absf main_v101
  fn_part5 (F := F) main_v102

def fn_part3 {F : FTy → Type} [FloatOps F] (main_arg3 : FVec F S16x16 .f32) (main_arg4 : FVec F S16x16 .f32) (main_arg5 : FVec F S16x4096 .f32) (main_v36 : FVec F S4096x4096 .f32) (main_v38 : FVec F S16x4096 .f32) (main_v49 : FVec F S16x4096 .f32) (main_v61 : FVec F S1x16x4096 .f32) (main_v62 : FVec F S16x16x4096 .f32) : IVec S16x4096 1 :=
  let main_v63 : FVec F S16x16x4096 .f32 := broadcastInDim S16x16x4096 ![0, 1, 2] bcast_S1x16x4096_S16x16x4096_0_1_2 main_v61
  let main_v64 : FVec F S16x16x4096 .f32 := mulf main_v62 main_v63
  let main_cst_8 : FVec F S_ .f32 := constant S_ .f32 0x00000000#32
  let main_v65 : FVec F S16x4096 .f32 := (fun x v => Host.reduceAdd x v reducesTo_S16x16x4096_S16x4096_d1 h_S_) main_v64 main_cst_8
  let main_v66 : FVec F S16x4096x1 .f32 := broadcastInDim S16x4096x1 ![0, 1] bcast_S16x4096_S16x4096x1_0_1 main_v49
  let main_v67 : FVec F S1x4096x4096 .f32 := broadcastInDim S1x4096x4096 ![1, 2] bcast_S4096x4096_S1x4096x4096_1_2 main_v36
  let main_v68 : FVec F S16x4096x4096 .f32 := broadcastInDim S16x4096x4096 ![0, 1, 2] bcast_S16x4096x1_S16x4096x4096_0_1_2 main_v66
  let main_v69 : FVec F S16x4096x4096 .f32 := broadcastInDim S16x4096x4096 ![0, 1, 2] bcast_S1x4096x4096_S16x4096x4096_0_1_2 main_v67
  let main_v70 : FVec F S16x4096x4096 .f32 := mulf main_v68 main_v69
  let main_cst_9 : FVec F S_ .f32 := constant S_ .f32 0x00000000#32
  let main_v71 : FVec F S16x4096 .f32 := (fun x v => Host.reduceAdd x v reducesTo_S16x4096x4096_S16x4096_d1 h_S_) main_v70 main_cst_9
  let main_cst_10 : FVec F S_ .f32 := constant S_ .f32 0x00000000#32
  let main_v72 : FVec F S4096 .f32 := (fun x v => Host.reduceAdd x v reducesTo_S4096x4096_S4096_d1 h_S_) main_v36 main_cst_10
  let main_v73 : FVec F S1x4096 .f32 := broadcastInDim S1x4096 ![1] bcast_S4096_S1x4096_1 main_v72
  let main_v74 : FVec F S16x4096 .f32 := broadcastInDim S16x4096 ![0, 1] bcast_S1x4096_S16x4096_0_1 main_v73
  let main_v75 : FVec F S16x4096 .f32 := Host.divf main_v71 main_v74
  let main_v76 : FVec F S16x16x1 .f32 := broadcastInDim S16x16x1 ![0, 1] bcast_S16x16_S16x16x1_0_1 main_arg3
  let main_v77 : FVec F S1x16x4096 .f32 := broadcastInDim S1x16x4096 ![1, 2] bcast_S16x4096_S1x16x4096_1_2 main_v75
  let main_v78 : FVec F S16x16x4096 .f32 := broadcastInDim S16x16x4096 ![0, 1, 2] bcast_S16x16x1_S16x16x4096_0_1_2 main_v76
  let main_v79 : FVec F S16x16x4096 .f32 := broadcastInDim S16x16x4096 ![0, 1, 2] bcast_S1x16x4096_S16x16x4096_0_1_2 main_v77
  let main_v80 : FVec F S16x16x4096 .f32 := mulf main_v78 main_v79
  let main_cst_11 : FVec F S_ .f32 := constant S_ .f32 0x00000000#32
  let main_v81 : FVec F S16x4096 .f32 := (fun x v => Host.reduceAdd x v reducesTo_S16x16x4096_S16x4096_d1 h_S_) main_v80 main_cst_11
  let main_v82 : FVec F S16x4096 .f32 := addf main_v65 main_v81
  fn_part4 (F := F) main_arg4 main_arg5 main_v38 main_v82

def fn_part2 {F : FTy → Type} [FloatOps F] (main_arg2 : FVec F S16x16 .f32) (main_arg3 : FVec F S16x16 .f32) (main_arg4 : FVec F S16x16 .f32) (main_arg5 : FVec F S16x4096 .f32) (main_v29 : FVec F S4096x4096 .f32) (main_v36 : FVec F S4096x4096 .f32) (main_v38 : FVec F S16x4096 .f32) (main_v41 : FVec F S4096 .f32) : IVec S16x4096 1 :=
  let main_v42 : FVec F S1x4096 .f32 := broadcastInDim S1x4096 ![1] bcast_S4096_S1x4096_1 main_v41
  let main_v43 : FVec F S16x4096 .f32 := broadcastInDim S16x4096 ![0, 1] bcast_S1x4096_S16x4096_0_1 main_v42
  let main_v44 : FVec F S16x4096 .f32 := subf main_v38 main_v43
  let main_v45 : FVec F S16x4096 .f32 := Host.exp main_v44
  let main_cst_5 : FVec F S_ .f32 := constant S_ .f32 0x00000000#32
  let main_v46 : FVec F S4096 .f32 := (fun x v => Host.reduceAdd x v reducesTo_S16x4096_S4096_d0 h_S_) main_v45 main_cst_5
  let main_v47 : FVec F S1x4096 .f32 := broadcastInDim S1x4096 ![1] bcast_S4096_S1x4096_1 main_v46
  let main_v48 : FVec F S16x4096 .f32 := broadcastInDim S16x4096 ![0, 1] bcast_S1x4096_S16x4096_0_1 main_v47
  let main_v49 : FVec F S16x4096 .f32 := Host.divf main_v45 main_v48
  let main_v50 : FVec F S16x4096x1 .f32 := broadcastInDim S16x4096x1 ![0, 1] bcast_S16x4096_S16x4096x1_0_1 main_v49
  let main_v51 : FVec F S1x4096x4096 .f32 := broadcastInDim S1x4096x4096 ![1, 2] bcast_S4096x4096_S1x4096x4096_1_2 main_v29
  let main_v52 : FVec F S16x4096x4096 .f32 := broadcastInDim S16x4096x4096 ![0, 1, 2] bcast_S16x4096x1_S16x4096x4096_0_1_2 main_v50
  let main_v53 : FVec F S16x4096x4096 .f32 := broadcastInDim S16x4096x4096 ![0, 1, 2] bcast_S1x4096x4096_S16x4096x4096_0_1_2 main_v51
  let main_v54 : FVec F S16x4096x4096 .f32 := mulf main_v52 main_v53
  let main_cst_6 : FVec F S_ .f32 := constant S_ .f32 0x00000000#32
  let main_v55 : FVec F S16x4096 .f32 := (fun x v => Host.reduceAdd x v reducesTo_S16x4096x4096_S16x4096_d1 h_S_) main_v54 main_cst_6
  let main_cst_7 : FVec F S_ .f32 := constant S_ .f32 0x00000000#32
  let main_v56 : FVec F S4096 .f32 := (fun x v => Host.reduceAdd x v reducesTo_S4096x4096_S4096_d1 h_S_) main_v29 main_cst_7
  let main_v57 : FVec F S1x4096 .f32 := broadcastInDim S1x4096 ![1] bcast_S4096_S1x4096_1 main_v56
  let main_v58 : FVec F S16x4096 .f32 := broadcastInDim S16x4096 ![0, 1] bcast_S1x4096_S16x4096_0_1 main_v57
  let main_v59 : FVec F S16x4096 .f32 := Host.divf main_v55 main_v58
  let main_v60 : FVec F S16x16x1 .f32 := broadcastInDim S16x16x1 ![0, 1] bcast_S16x16_S16x16x1_0_1 main_arg2
  let main_v61 : FVec F S1x16x4096 .f32 := broadcastInDim S1x16x4096 ![1, 2] bcast_S16x4096_S1x16x4096_1_2 main_v59
  let main_v62 : FVec F S16x16x4096 .f32 := broadcastInDim S16x16x4096 ![0, 1, 2] bcast_S16x16x1_S16x16x4096_0_1_2 main_v60
  fn_part3 (F := F) main_arg3 main_arg4 main_arg5 main_v36 main_v38 main_v49 main_v61 main_v62

def fn_part1 {F : FTy → Type} [FloatOps F] (main_arg0 : FVec F S1x16x16x16x16 .f32) (main_arg2 : FVec F S16x16 .f32) (main_arg3 : FVec F S16x16 .f32) (main_arg4 : FVec F S16x16 .f32) (main_arg5 : FVec F S16x4096 .f32) (main_v18 : FVec F S4096x4096 .f32) (main_v21 : FVec F S1x4096 .f32) (main_v22 : FVec F S4096x4096 .f32) : IVec S16x4096 1 :=
  let main_v23 : FVec F S4096x4096 .f32 := broadcastInDim S4096x4096 ![0, 1] bcast_S1x4096_S4096x4096_0_1 main_v21
  let main_v24 : FVec F S4096x4096 .f32 := subf main_v22 main_v23
  let main_v25 : FVec F S4096x4096 .f32 := mulf main_v24 main_v24
  let main_v26 : FVec F S4096x4096 .f32 := Host.negf main_v18
  let main_cst_0 : FVec F S_ .f32 := constant S_ .f32 0x41900000#32
  let main_v27 : FVec F S4096x4096 .f32 := broadcastInDim S4096x4096 ![] bcast_S_S4096x4096 main_cst_0
  let main_v28 : FVec F S4096x4096 .f32 := Host.divf main_v26 main_v27
  let main_v29 : FVec F S4096x4096 .f32 := Host.exp main_v28
  let main_v30 : FVec F S4096x4096 .f32 := Host.negf main_v18
  let main_cst_1 : FVec F S_ .f32 := constant S_ .f32 0x46480000#32
  let main_v31 : FVec F S4096x4096 .f32 := broadcastInDim S4096x4096 ![] bcast_S_S4096x4096 main_cst_1
  let main_v32 : FVec F S4096x4096 .f32 := Host.divf main_v30 main_v31
  let main_cst_2 : FVec F S_ .f32 := constant S_ .f32 0x3F000000#32
  let main_v33 : FVec F S4096x4096 .f32 := broadcastInDim S4096x4096 ![] bcast_S_S4096x4096 main_cst_2
  let main_v34 : FVec F S4096x4096 .f32 := Host.divf main_v25 main_v33
  let main_v35 : FVec F S4096x4096 .f32 := subf main_v32 main_v34
  let main_v36 : FVec F S4096x4096 .f32 := Host.exp main_v35
  let main_v37 : FVec F S16x16x16x16 .f32 := shapeCast S16x16x16x16 main_arg0 shapeCasts_S1x16x16x16x16_S16x16x16x16
  let main_v38 : FVec F S16x4096 .f32 := shapeCast S16x4096 main_v37 shapeCasts_S16x16x16x16_S16x4096
  let main_cst_3 : FVec F S_ .f32 := constant S_ .f32 0xFF800000#32
  let main_v39 : FVec F S4096 .f32 := (fun x v => Host.reduce FloatOps.maximumf x v reducesTo_S16x4096_S4096_d0 h_S_) main_v38 main_cst_3
  let main_cst_4 : FVec F S_ .f32 := constant S_ .f32 0xFF800000#32
  let main_v40 : FVec F S4096 .f32 := broadcastInDim S4096 ![] bcast_S_S4096 main_cst_4
  let main_v41 : FVec F S4096 .f32 := maximumf main_v40 main_v39
  fn_part2 (F := F) main_arg2 main_arg3 main_arg4 main_arg5 main_v29 main_v36 main_v38 main_v41

def fn {F : FTy → Type} [FloatOps F] (main_arg0 : FVec F S1x16x16x16x16 .f32) (main_arg1 : FVec F S1x1x16x16x16 .f32) (main_arg2 : FVec F S16x16 .f32) (main_arg3 : FVec F S16x16 .f32) (main_arg4 : FVec F S16x16 .f32) (main_arg5 : FVec F S16x4096 .f32) : IVec S16x4096 1 :=
  let main_v0 : IVec S16 32 := iotaInDim S16 32 0
  let main_v1 : IVec S16 32 := iotaInDim S16 32 0
  let main_v2 : IVec S16 32 := iotaInDim S16 32 0
  let main_v3 : IVec S16x16x16 32 := broadcastInDim S16x16x16 ![0] bcast_S16_S16x16x16_0 main_v0
  let main_v4 : IVec S16x16x16 32 := broadcastInDim S16x16x16 ![1] bcast_S16_S16x16x16_1 main_v1
  let main_v5 : IVec S16x16x16 32 := broadcastInDim S16x16x16 ![2] bcast_S16_S16x16x16_2 main_v2
  let main_v6 : IVec S16x16x16x1 32 := broadcastInDim S16x16x16x1 ![0, 1, 2] bcast_S16x16x16_S16x16x16x1_0_1_2 main_v3
  let main_v7 : IVec S16x16x16x1 32 := broadcastInDim S16x16x16x1 ![0, 1, 2] bcast_S16x16x16_S16x16x16x1_0_1_2 main_v4
  let main_v8 : IVec S16x16x16x1 32 := broadcastInDim S16x16x16x1 ![0, 1, 2] bcast_S16x16x16_S16x16x16x1_0_1_2 main_v5
  let main_v9 : IVec S16x16x16x3 32 := concatenate S16x16x16x3 3 [⟨S16x16x16x1, main_v6⟩, ⟨S16x16x16x1, main_v7⟩, ⟨S16x16x16x1, main_v8⟩] concatenates_S16x16x16x1_S16x16x16x1_S16x16x16x1_S16x16x16x3_d3
  let main_v10 : IVec S4096x3 32 := shapeCast S4096x3 main_v9 shapeCasts_S16x16x16x3_S4096x3
  let main_v11 : FVec F S4096x3 .f32 := sitofp .f32 main_v10
  let main_v12 : FVec F S4096x1x3 .f32 := broadcastInDim S4096x1x3 ![0, 2] bcast_S4096x3_S4096x1x3_0_2 main_v11
  let main_v13 : FVec F S1x4096x3 .f32 := broadcastInDim S1x4096x3 ![1, 2] bcast_S4096x3_S1x4096x3_1_2 main_v11
  let main_v14 : FVec F S4096x4096x3 .f32 := broadcastInDim S4096x4096x3 ![0, 1, 2] bcast_S4096x1x3_S4096x4096x3_0_1_2 main_v12
  let main_v15 : FVec F S4096x4096x3 .f32 := broadcastInDim S4096x4096x3 ![0, 1, 2] bcast_S1x4096x3_S4096x4096x3_0_1_2 main_v13
  let main_v16 : FVec F S4096x4096x3 .f32 := subf main_v14 main_v15
  let main_v17 : FVec F S4096x4096x3 .f32 := mulf main_v16 main_v16
  let main_cst : FVec F S_ .f32 := constant S_ .f32 0x00000000#32
  let main_v18 : FVec F S4096x4096 .f32 := (fun x v => Host.reduceAdd x v reducesTo_S4096x4096x3_S4096x4096_d2 h_S_) main_v17 main_cst
  let main_v19 : FVec F S4096 .f32 := shapeCast S4096 main_arg1 shapeCasts_S1x1x16x16x16_S4096
  let main_v20 : FVec F S4096x1 .f32 := broadcastInDim S4096x1 ![0] bcast_S4096_S4096x1_0 main_v19
  let main_v21 : FVec F S1x4096 .f32 := broadcastInDim S1x4096 ![1] bcast_S4096_S1x4096_1 main_v19
  let main_v22 : FVec F S4096x4096 .f32 := broadcastInDim S4096x4096 ![0, 1] bcast_S4096x1_S4096x4096_0_1 main_v20
  fn_part1 (F := F) main_arg0 main_arg2 main_arg3 main_arg4 main_arg5 main_v18 main_v21 main_v22
-- ==== Pre_finite_image.lean ====
abbrev S1x16x16x16x16 : Shape := ⟨5, ![1, 16, 16, 16, 16]⟩
abbrev S1x1x16x16x16 : Shape := ⟨5, ![1, 1, 16, 16, 16]⟩
abbrev S16x16 : Shape := ⟨2, ![16, 16]⟩
abbrev S_ : Shape := ⟨0, ![]⟩

class Facts : Prop where
  bcast_S_S1x16x16x16x16 : S_.BroadcastsInDim S1x16x16x16x16 (![] : Fin 0 → Fin S1x16x16x16x16.rank)
  bcast_S_S1x1x16x16x16 : S_.BroadcastsInDim S1x1x16x16x16 (![] : Fin 0 → Fin S1x1x16x16x16.rank)
  bcast_S_S16x16 : S_.BroadcastsInDim S16x16 (![] : Fin 0 → Fin S16x16.rank)

variable [Facts]

def fn {F : FTy → Type} [FloatOps F] (main_arg0 : FVec F S1x16x16x16x16 .f32) (main_arg1 : FVec F S1x1x16x16x16 .f32) (main_arg2 : FVec F S16x16 .f32) (main_arg3 : FVec F S16x16 .f32) (main_arg4 : FVec F S16x16 .f32) : IVec S1x16x16x16x16 1 × IVec S1x1x16x16x16 1 × IVec S16x16 1 × IVec S16x16 1 × IVec S16x16 1 :=
  let main_v0 : FVec F S1x16x16x16x16 .f32 := Host.absf main_arg0
  let main_cst : FVec F S_ .f32 := constant S_ .f32 0x7F800000#32
  let main_v1 : FVec F S1x16x16x16x16 .f32 := broadcastInDim S1x16x16x16x16 ![] bcast_S_S1x16x16x16x16 main_cst
  let main_v2 : IVec S1x16x16x16x16 1 := cmpf .olt main_v0 main_v1
  let main_cst_0 : FVec F S_ .f32 := constant S_ .f32 0x00000000#32
  let main_v3 : FVec F S1x1x16x16x16 .f32 := broadcastInDim S1x1x16x16x16 ![] bcast_S_S1x1x16x16x16 main_cst_0
  let main_v4 : IVec S1x1x16x16x16 1 := cmpf .oge main_arg1 main_v3
  let main_cst_1 : FVec F S_ .f32 := constant S_ .f32 0x7F800000#32
  let main_v5 : FVec F S1x1x16x16x16 .f32 := broadcastInDim S1x1x16x16x16 ![] bcast_S_S1x1x16x16x16 main_cst_1
  let main_v6 : IVec S1x1x16x16x16 1 := cmpf .olt main_arg1 main_v5
  let main_v7 : IVec S1x1x16x16x16 1 := andi main_v4 main_v6
  let main_v8 : FVec F S16x16 .f32 := Host.absf main_arg2
  let main_cst_2 : FVec F S_ .f32 := constant S_ .f32 0x7F800000#32
  let main_v9 : FVec F S16x16 .f32 := broadcastInDim S16x16 ![] bcast_S_S16x16 main_cst_2
  let main_v10 : IVec S16x16 1 := cmpf .olt main_v8 main_v9
  let main_v11 : FVec F S16x16 .f32 := Host.absf main_arg3
  let main_cst_3 : FVec F S_ .f32 := constant S_ .f32 0x7F800000#32
  let main_v12 : FVec F S16x16 .f32 := broadcastInDim S16x16 ![] bcast_S_S16x16 main_cst_3
  let main_v13 : IVec S16x16 1 := cmpf .olt main_v11 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  (main_v2, main_v7, main_v10, main_v13, main_v16)
-- ==== Pre_unit_image.lean ====
abbrev S1x16x16x16x16 : Shape := ⟨5, ![1, 16, 16, 16, 16]⟩
abbrev S1x1x16x16x16 : Shape := ⟨5, ![1, 1, 16, 16, 16]⟩
abbrev S16x16 : Shape := ⟨2, ![16, 16]⟩
abbrev S_ : Shape := ⟨0, ![]⟩

class Facts : Prop where
  bcast_S_S1x16x16x16x16 : S_.BroadcastsInDim S1x16x16x16x16 (![] : Fin 0 → Fin S1x16x16x16x16.rank)
  bcast_S_S1x1x16x16x16 : S_.BroadcastsInDim S1x1x16x16x16 (![] : Fin 0 → Fin S1x1x16x16x16.rank)
  bcast_S_S16x16 : S_.BroadcastsInDim S16x16 (![] : Fin 0 → Fin S16x16.rank)

variable [Facts]

def fn {F : FTy → Type} [FloatOps F] (main_arg0 : FVec F S1x16x16x16x16 .f32) (main_arg1 : FVec F S1x1x16x16x16 .f32) (main_arg2 : FVec F S16x16 .f32) (main_arg3 : FVec F S16x16 .f32) (main_arg4 : FVec F S16x16 .f32) : IVec S1x16x16x16x16 1 × IVec S1x1x16x16x16 1 × IVec S16x16 1 × IVec S16x16 1 × IVec S16x16 1 :=
  let main_v0 : FVec F S1x16x16x16x16 .f32 := Host.absf main_arg0
  let main_cst : FVec F S_ .f32 := constant S_ .f32 0x7F800000#32
  let main_v1 : FVec F S1x16x16x16x16 .f32 := broadcastInDim S1x16x16x16x16 ![] bcast_S_S1x16x16x16x16 main_cst
  let main_v2 : IVec S1x16x16x16x16 1 := cmpf .olt main_v0 main_v1
  let main_cst_0 : FVec F S_ .f32 := constant S_ .f32 0x00000000#32
  let main_v3 : FVec F S1x1x16x16x16 .f32 := broadcastInDim S1x1x16x16x16 ![] bcast_S_S1x1x16x16x16 main_cst_0
  let main_v4 : IVec S1x1x16x16x16 1 := cmpf .oge main_arg1 main_v3
  let main_cst_1 : FVec F S_ .f32 := constant S_ .f32 0x3F800000#32
  let main_v5 : FVec F S1x1x16x16x16 .f32 := broadcastInDim S1x1x16x16x16 ![] bcast_S_S1x1x16x16x16 main_cst_1
  let main_v6 : IVec S1x1x16x16x16 1 := cmpf .ole main_arg1 main_v5
  let main_v7 : IVec S1x1x16x16x16 1 := andi main_v4 main_v6
  let main_v8 : FVec F S16x16 .f32 := Host.absf main_arg2
  let main_cst_2 : FVec F S_ .f32 := constant S_ .f32 0x7F800000#32
  let main_v9 : FVec F S16x16 .f32 := broadcastInDim S16x16 ![] bcast_S_S16x16 main_cst_2
  let main_v10 : IVec S16x16 1 := cmpf .olt main_v8 main_v9
  let main_v11 : FVec F S16x16 .f32 := Host.absf main_arg3
  let main_cst_3 : FVec F S_ .f32 := constant S_ .f32 0x40A00000#32
  let main_v12 : FVec F S16x16 .f32 := broadcastInDim S16x16 ![] bcast_S_S16x16 main_cst_3
  let main_v13 : IVec S16x16 1 := cmpf .ole main_v11 main_v12
  let main_v14 : FVec F S16x16 .f32 := Host.absf main_arg4
  let main_cst_4 : FVec F S_ .f32 := constant S_ .f32 0x3F800000#32
  let main_v15 : FVec F S16x16 .f32 := broadcastInDim S16x16 ![] bcast_S_S16x16 main_cst_4
  let main_v16 : IVec S16x16 1 := cmpf .ole main_v14 main_v15
  (main_v2, main_v7, main_v10, main_v13, main_v16)
-- ==== Kernel.lean ====
abbrev S1x16x16x16x16 : Shape := ⟨5, ![1, 16, 16, 16, 16]⟩
abbrev S1x1x16x16x16 : Shape := ⟨5, ![1, 1, 16, 16, 16]⟩
abbrev S16x16 : Shape := ⟨2, ![16, 16]⟩
abbrev S16x16x16x16 : Shape := ⟨4, ![16, 16, 16, 16]⟩
abbrev S16x4096 : Shape := ⟨2, ![16, 4096]⟩
abbrev S1x4096 : Shape := ⟨2, ![1, 4096]⟩
abbrev S16x256 : Shape := ⟨2, ![16, 256]⟩
abbrev S4096 : Shape := ⟨1, ![4096]⟩
abbrev S256x256 : Shape := ⟨2, ![256, 256]⟩
abbrev S256x4096 : Shape := ⟨2, ![256, 4096]⟩
abbrev S4096x256 : Shape := ⟨2, ![4096, 256]⟩
abbrev S16x65536 : Shape := ⟨2, ![16, 65536]⟩
abbrev S4096x16 : Shape := ⟨2, ![4096, 16]⟩
abbrev S256x16 : Shape := ⟨2, ![256, 16]⟩
abbrev S1x256 : Shape := ⟨2, ![1, 256]⟩

abbrev nBuf : Space → Nat
  | .hbm => 10
  | .vmem => 7
  | .smem => 0
  | _ => 0

abbrev bufTy : (tb : Table) → Fin (tcTables nBuf tb) → BufTy
  | .hbm, ⟨0, _⟩ => ⟨S1x16x16x16x16, .f32⟩
  | .hbm, ⟨1, _⟩ => ⟨S1x1x16x16x16, .f32⟩
  | .hbm, ⟨2, _⟩ => ⟨S16x16, .f32⟩
  | .hbm, ⟨3, _⟩ => ⟨S16x16, .f32⟩
  | .hbm, ⟨4, _⟩ => ⟨S16x16, .f32⟩
  | .hbm, ⟨5, _⟩ => ⟨S16x16x16x16, .f32⟩
  | .hbm, ⟨6, _⟩ => ⟨S16x4096, .f32⟩
  | .hbm, ⟨7, _⟩ => ⟨S1x4096, .f32⟩
  | .hbm, ⟨8, _⟩ => ⟨S16x256, .f32⟩
  | .hbm, ⟨9, _⟩ => ⟨S16x4096, .f32⟩
  | .local _ .vmem, ⟨0, _⟩ => ⟨S16x4096, .f32⟩
  | .local _ .vmem, ⟨1, _⟩ => ⟨S1x4096, .f32⟩
  | .local _ .vmem, ⟨2, _⟩ => ⟨S16x256, .f32⟩
  | .local _ .vmem, ⟨3, _⟩ => ⟨S16x16, .f32⟩
  | .local _ .vmem, ⟨4, _⟩ => ⟨S16x16, .f32⟩
  | .local _ .vmem, ⟨5, _⟩ => ⟨S16x16, .f32⟩
  | .local _ .vmem, ⟨6, _⟩ => ⟨S16x4096, .f32⟩
  | _, _ => ⟨S1x16x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "a" => some ((-1 / 12800 : ℝ) : EReal)
  | "c" => some ((-1 / 18 : ℝ) : EReal)
  | "r3" => some ((1 / 3 : ℝ) : EReal)
  | "s10" => some (((Real.sqrt 10)⁻¹ : ℝ) : EReal)
  | "s11" => some (((Real.sqrt 11)⁻¹ : ℝ) : EReal)
  | "s12" => some (((Real.sqrt 12)⁻¹ : ℝ) : EReal)
  | "s13" => some (((Real.sqrt 13)⁻¹ : ℝ) : EReal)
  | "s14" => some (((Real.sqrt 14)⁻¹ : ℝ) : EReal)
  | "s15" => some (((Real.sqrt 15)⁻¹ : ℝ) : EReal)
  | "s2" => some (((Real.sqrt 2)⁻¹ : ℝ) : EReal)
  | "s3" => some (((Real.sqrt 3)⁻¹ : ℝ) : EReal)
  | "s5" => some (((Real.sqrt 5)⁻¹ : ℝ) : EReal)
  | "s6" => some (((Real.sqrt 6)⁻¹ : ℝ) : EReal)
  | "s7" => some (((Real.sqrt 7)⁻¹ : ℝ) : EReal)
  | "s8" => some (((Real.sqrt 8)⁻¹ : ℝ) : EReal)
  | _ => none
-- ==== ReferenceIdeal.lean ====
abbrev S1x16x16x16x16 : Shape := ⟨5, ![1, 16, 16, 16, 16]⟩
abbrev S1x1x16x16x16 : Shape := ⟨5, ![1, 1, 16, 16, 16]⟩
abbrev S16x16 : Shape := ⟨2, ![16, 16]⟩
abbrev S16 : Shape := ⟨1, ![16]⟩
abbrev S16x16x16 : Shape := ⟨3, ![16, 16, 16]⟩
abbrev S16x16x16x1 : Shape := ⟨4, ![16, 16, 16, 1]⟩
abbrev S16x16x16x3 : Shape := ⟨4, ![16, 16, 16, 3]⟩
abbrev S4096x3 : Shape := ⟨2, ![4096, 3]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S3x4096 : Shape := ⟨2, ![3, 4096]⟩
abbrev S16x16x16x16 : Shape := ⟨4, ![16, 16, 16, 16]⟩
abbrev S16x4096 : Shape := ⟨2, ![16, 4096]⟩

abbrev nBuf : Space → Nat
  | .hbm => 190
  | .vmem => 0
  | .smem => 0
  | _ => 0

abbrev hbmTy0_0 (i : Nat) : BufTy := match i % 128 with
  | 0 => ⟨S1x16x16x16x16, .f32⟩
  | 1 => ⟨S1x1x16x16x16, .f32⟩
  | 2 => ⟨S16x16, .f32⟩
  | 3 => ⟨S16x16, .f32⟩
  | 4 => ⟨S16x16, .f32⟩
  | 5 => ⟨S16, .i32⟩
  | 6 => ⟨S16, .i32⟩
  | 7 => ⟨S16, .i32⟩
  | 8 => ⟨S16x16x16, .i32⟩
  | 9 => ⟨S16x16x16, .i32⟩
  | 10 => ⟨S16x16x16, .i32⟩
  | 11 => ⟨S16x16x16x1, .i32⟩
  | 12 => ⟨S16x16x16x1, .i32⟩
  | 13 => ⟨S16x16x16x1, .i32⟩
  | 14 => ⟨S16x16x16x3, .i32⟩
  | 15 => ⟨S4096x3, .i32⟩
  | 16 => ⟨S4096x3, .f32⟩
  | 17 => ⟨S4096x3, .f32⟩
  | 18 => ⟨S_, .f32⟩
  | 19 => ⟨S4096, .f32⟩
  | 20 => ⟨S4096x1, .f32⟩
  | 21 => ⟨S1x4096, .f32⟩
  | 22 => ⟨S4096x4096, .f32⟩
  | 23 => ⟨S4096x4096, .f32⟩
  | 24 => ⟨S4096x4096, .f32⟩
  | 25 => ⟨S3x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S4096, .f32⟩
  | 35 => ⟨S4096x4096, .f32⟩
  | 36 => ⟨S_, .f32⟩
  | 37 => ⟨S4096x4096, .f32⟩
  | 38 => ⟨S4096x4096, .f32⟩
  | 39 => ⟨S4096x4096, .f32⟩
  | 40 => ⟨S4096, .f32⟩
  | 41 => ⟨S4096x1, .f32⟩
  | 42 => ⟨S1x4096, .f32⟩
  | 43 => ⟨S4096x4096, .f32⟩
  | 44 => ⟨S4096x4096, .f32⟩
  | 45 => ⟨S4096x4096, .f32⟩
  | 46 => ⟨S_, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S4096x4096, .f32⟩
  | 61 => ⟨S4096x4096, .f32⟩
  | 62 => ⟨S_, .f32⟩
  | 63 => ⟨S4096x4096, .f32⟩
  | 64 => ⟨S4096x4096, .f32⟩
  | 65 => ⟨S4096x4096, .f32⟩
  | 66 => ⟨S4096x4096, .f32⟩
  | 67 => ⟨S_, .f32⟩
  | 68 => ⟨S4096x4096, .f32⟩
  | 69 => ⟨S4096x4096, .f32⟩
  | 70 => ⟨S4096x4096, .f32⟩
  | 71 => ⟨S4096x4096, .f32⟩
  | 72 => ⟨S_, .f32⟩
  | 73 => ⟨S4096x4096, .f32⟩
  | 74 => ⟨S4096x4096, .f32⟩
  | 75 => ⟨S4096x4096, .f32⟩
  | 76 => ⟨S4096x4096, .f32⟩
  | 77 => ⟨S_, .f32⟩
  | 78 => ⟨S4096x4096, .f32⟩
  | 79 => ⟨S4096x4096, .f32⟩
  | 80 => ⟨S4096x4096, .f32⟩
  | 81 => ⟨S4096x4096, .f32⟩
  | 82 => ⟨S_, .f32⟩
  | 83 => ⟨S4096x4096, .f32⟩
  | 84 => ⟨S4096x4096, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S4096x4096, .f32⟩
  | 92 => ⟨S_, .f32⟩
  | 93 => ⟨S4096x4096, .f32⟩
  | 94 => ⟨S4096x4096, .f32⟩
  | 95 => ⟨S4096x4096, .f32⟩
  | 96 => ⟨S4096x4096, .f32⟩
  | 97 => ⟨S_, .f32⟩
  | 98 => ⟨S4096x4096, .f32⟩
  | 99 => ⟨S4096x4096, .f32⟩
  | 100 => ⟨S4096x4096, .f32⟩
  | 101 => ⟨S4096x4096, .f32⟩
  | 102 => ⟨S_, .f32⟩
  | 103 => ⟨S4096x4096, .f32⟩
  | 104 => ⟨S4096x4096, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S4096x4096, .f32⟩
  | 111 => ⟨S4096x4096, .f32⟩
  | 112 => ⟨S_, .f32⟩
  | 113 => ⟨S4096x4096, .f32⟩
  | 114 => ⟨S4096x4096, .f32⟩
  | 115 => ⟨S4096x4096, .f32⟩
  | 116 => ⟨S4096x4096, .f32⟩
  | 117 => ⟨S_, .f32⟩
  | 118 => ⟨S4096x4096, .f32⟩
  | 119 => ⟨S4096x4096, .f32⟩
  | 120 => ⟨S4096x4096, .f32⟩
  | 121 => ⟨S4096x4096, .f32⟩
  | 122 => ⟨S_, .f32⟩
  | 123 => ⟨S4096x4096, .f32⟩
  | 124 => ⟨S4096x4096, .f32⟩
  | 125 => ⟨S4096x4096, .f32⟩
  | 126 => ⟨S4096x4096, .f32⟩
  | 127 => ⟨S_, .f32⟩
  | _ => ⟨S1x16x16x16x16, .f32⟩

abbrev hbmTy0_1 (i : Nat) : BufTy := match i % 128 with
  | 0 => ⟨S4096x4096, .f32⟩
  | 1 => ⟨S4096x4096, .f32⟩
  | 2 => ⟨S4096x1, .f32⟩
  | 3 => ⟨S1x4096, .f32⟩
  | 4 => ⟨S4096x4096, .f32⟩
  | 5 => ⟨S4096x4096, .f32⟩
  | 6 => ⟨S4096x4096, .f32⟩
  | 7 => ⟨S_, .f32⟩
  | 8 => ⟨S4096x4096, .f32⟩
  | 9 => ⟨S4096x4096, .f32⟩
  | 10 => ⟨S4096x4096, .f32⟩
  | 11 => ⟨S4096x4096, .f32⟩
  | 12 => ⟨S4096x4096, .f32⟩
  | 13 => ⟨S16x16x16x16, .f32⟩
  | 14 => ⟨S16x4096, .f32⟩
  | 15 => ⟨S_, .f32⟩
  | 16 => ⟨S4096, .f32⟩
  | 17 => ⟨S_, .f32⟩
  | 18 => ⟨S4096, .f32⟩
  | 19 => ⟨S4096, .f32⟩
  | 20 => ⟨S1x4096, .f32⟩
  | 21 => ⟨S16x4096, .f32⟩
  | 22 => ⟨S16x4096, .f32⟩
  | 23 => ⟨S16x4096, .f32⟩
  | 24 => ⟨S_, .f32⟩
  | 25 => ⟨S4096, .f32⟩
  | 26 => ⟨S1x4096, .f32⟩
  | 27 => ⟨S16x4096, .f32⟩
  | 28 => ⟨S16x4096, .f32⟩
  | 29 => ⟨S_, .f32⟩
  | 30 => ⟨S4096, .f32⟩
  | 31 => ⟨S4096, .f32⟩
  | 32 => ⟨S16x4096, .f32⟩
  | 33 => ⟨S1x4096, .f32⟩
  | 34 => ⟨S16x4096, .f32⟩
  | 35 => ⟨S16x4096, .f32⟩
  | 36 => ⟨S16x4096, .f32⟩
  | 37 => ⟨S_, .f32⟩
  | 38 => ⟨S4096, .f32⟩
  | 39 => ⟨S4096, .f32⟩
  | 40 => ⟨S16x4096, .f32⟩
  | 41 => ⟨S1x4096, .f32⟩
  | 42 => ⟨S16x4096, .f32⟩
  | 43 => ⟨S16x4096, .f32⟩
  | 44 => ⟨S16x4096, .f32⟩
  | 45 => ⟨S16x4096, .f32⟩
  | 46 => ⟨S16x4096, .f32⟩
  | 47 => ⟨S16x4096, .f32⟩
  | 48 => ⟨S_, .f32⟩
  | 49 => ⟨S4096, .f32⟩
  | 50 => ⟨S_, .f32⟩
  | 51 => ⟨S4096, .f32⟩
  | 52 => ⟨S4096, .f32⟩
  | 53 => ⟨S1x4096, .f32⟩
  | 54 => ⟨S16x4096, .f32⟩
  | 55 => ⟨S16x4096, .f32⟩
  | 56 => ⟨S16x4096, .f32⟩
  | 57 => ⟨S_, .f32⟩
  | 58 => ⟨S4096, .f32⟩
  | 59 => ⟨S1x4096, .f32⟩
  | 60 => ⟨S16x4096, .f32⟩
  | 61 => ⟨S16x4096, .f32⟩
  | _ => ⟨S1x16x16x16x16, .f32⟩

abbrev hbmTy (i : Nat) : BufTy := match i / 128 with
  | 0 => hbmTy0_0 i
  | 1 => hbmTy0_1 i
  | _ => ⟨S1x16x16x16x16, .f32⟩

abbrev bufTy : (tb : Table) → Fin (tcTables nBuf tb) → BufTy
  | .hbm, ⟨i, _⟩ => hbmTy i
  | _, _ => ⟨S1x16x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_14 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_15 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_16 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_17 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_18 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_19 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_20 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_21 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_22 : Ref sig .tc := ⟨.hbm, 143, rfl⟩
abbrev main_v115 : Ref sig .tc := ⟨.hbm, 144, rfl⟩
abbrev main_cst_23 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_24 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_25 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_26 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_27 : Ref sig .tc := ⟨.hbm, 176, rfl⟩
abbrev main_v143 : Ref sig .tc := ⟨.hbm, 177, rfl⟩
abbrev main_cst_28 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_29 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩

abbrev nD : Nat := 1
abbrev τ : Topo := Topo.v7x

variable {F : FTy → Type} [FloatOps F]
-- ==== Proof.Reals.lean ====
/-
  Arithmetic of extended reals that are real numbers: sums, quotients, the maximum of a column and the softmax of
  a column, each the real one when the operands are real.
-/
module

public import Idealize.ShloMosaic.Lib.Pointwise
public import Mathlib.Algebra.BigOperators.Fin

@[expose] public section

noncomputable section

namespace Cert.Crf

open Idealize.ShloMosaic

/-- A finite sum of real numbers, taken over the extended reals, is the real sum. -/
theorem coe_sum {ι : Type*} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The quotient of two real numbers, the divisor nonzero, is the real quotient. -/
theorem coe_div {x y : ℝ} (h : y ≠ 0) : Ideal.div (x : EReal) (y : EReal) = ((x / y : ℝ) : EReal) := by
  rw [Ideal.div_coe h, ← EReal.coe_mul, mul_one_div]

/-- The running maximum of finitely many (and at least one) real numbers, from the least extended real, is a real. -/
theorem fold_max_coe {n : ℕ} (g : Fin (n + 1) → ℝ) :
    ∃ M : ℝ, (Finset.univ.fold max (⊥ : EReal) fun k => ((g k : ℝ) : EReal)) = (M : EReal) := by
  have hsup : (Finset.univ.fold max (⊥ : EReal) fun k => ((g k : ℝ) : EReal))
      = Finset.univ.sup (fun k => ((g k : ℝ) : EReal)) := rfl
  obtain ⟨k, -, hk⟩ := Finset.exists_mem_eq_sup' (s := (Finset.univ : Finset (Fin (n + 1)))) ⟨0, Finset.mem_univ 0⟩
    (fun k => ((g k : ℝ) : EReal))
  exact ⟨g k, by rw [hsup, ← Finset.sup'_eq_sup ⟨0, Finset.mem_univ 0⟩]; exact hk⟩

/-- The softmax of a column of reals. -/
def softmax {n : ℕ} (r : Fin n → ℝ) (l : Fin n) : ℝ := Real.exp (r l) / ∑ k, Real.exp (r k)

/-- The softmax computed after subtracting any real from the column is the softmax of the column. -/
theorem softmax_shift {n : ℕ} (r : Fin (n + 1) → ℝ) (M : ℝ) (l : Fin (n + 1)) :
    Real.exp (r l - M) / (∑ k, Real.exp (r k - M)) = softmax r l := by
  simp only [Real.exp_sub, softmax, ← Finset.sum_div]
  exact div_div_div_cancel_right₀ (Real.exp_ne_zero M) _ _

/-- A sum of exponentials is positive. -/
theorem sum_exp_pos {n : ℕ} (r : Fin (n + 1) → ℝ) : 0 < ∑ k, Real.exp (r k) :=
  Finset.sum_pos (fun _ _ => Real.exp_pos _) Finset.univ_nonempty

/-- The softmax of a column of reals computed over the extended reals, with the column's maximum subtracted first. -/
theorem softmax_coe {n : ℕ} (x : Fin (n + 1) → EReal) (r : Fin (n + 1) → ℝ) (h : ∀ k, x k = (r k : EReal))
    (l : Fin (n + 1)) :
    Ideal.div (Ideal.exp (x l - Finset.univ.fold max ⊥ x)) (∑ k, Ideal.exp (x k - Finset.univ.fold max ⊥ x))
      = ((softmax r l : ℝ) : EReal) := by
  obtain rfl : x = fun k => (r k : EReal) := funext h
  obtain ⟨M, hM⟩ := fold_max_coe r
  simp only [hM, ← EReal.coe_sub, Ideal.exp_coe, coe_sum]
  rw [coe_div (sum_exp_pos fun k => r k - M).ne', softmax_shift]

/-- A sum over the 4096 voxels is the sum over their 16 slices of 256 voxels each. -/
theorem sum_slices {M : Type*} [AddCommMonoid M] (f : Fin 4096 → M) :
    ∑ n, f n = ∑ z : Fin 16, ∑ w : Fin 256, f ⟨z.val * 256 + w.val, by omega⟩ := by
  rw [← (finProdFinEquiv (m := 16) (n := 256)).sum_comp (g := f), Fintype.sum_prod_type]
  refine Finset.sum_congr rfl fun z _ => Finset.sum_congr rfl fun w _ => congrArg f (Fin.ext ?_)
  simp only [finProdFinEquiv, Equiv.coe_fn_mk]
  omega

end Cert.Crf

end
-- ==== Proof.Words.lean ====
/-
  The kernel's integer coordinates: small numbers held in 32-bit words, shifted, masked, subtracted and compared, and
  the real numbers they become.
-/
module

public import proofs.«01_k».proof.Proof.Reals
public import proofs.«01_k».proof.Proof.Gen.KernelIdeal.Skeleton

@[expose] public section

set_option maxRecDepth 16384

noncomputable section

namespace Cert.Crf

open Idealize.ShloMosaic Cert.KernelIdeal

/-- Shifting a number below 4096 right by four places divides it by 16. -/
theorem shr4 (n : ℕ) (h : n < 4096) :
    IntOp.shrsi .vector (BitVec.ofNat 32 n) 4#32 = BitVec.ofNat 32 (n / 16) := by
  have key : ∀ k : Fin 4096, IntOp.shrsi .vector (BitVec.ofNat 32 k.val) 4#32 = BitVec.ofNat 32 (k.val / 16) := by
    decide +kernel
  exact key ⟨n, h⟩

/-- Shifting a number below 4096 right by eight places divides it by 256. -/
theorem shr8 (n : ℕ) (h : n < 4096) :
    IntOp.shrsi .vector (BitVec.ofNat 32 n) 8#32 = BitVec.ofNat 32 (n / 256) := by
  have key : ∀ k : Fin 4096, IntOp.shrsi .vector (BitVec.ofNat 32 k.val) 8#32 = BitVec.ofNat 32 (k.val / 256) := by
    decide +kernel
  exact key ⟨n, h⟩

/-- Masking a number below 4096 with fifteen leaves its remainder by 16. -/
theorem and15 (n : ℕ) (h : n < 4096) :
    IntOp.andi (BitVec.ofNat 32 n) 15#32 = BitVec.ofNat 32 (n % 16) := by
  have key : ∀ k : Fin 4096, IntOp.andi (BitVec.ofNat 32 k.val) 15#32 = BitVec.ofNat 32 (k.val % 16) := by
    decide +kernel
  exact key ⟨n, h⟩

/-- A word becomes the real number of its signed value. -/
theorem sitofp_real (x : BitVec 32) :
    FloatOps.sitofp (F := Ideal) .f32 x = (((x.toInt : ℤ) : ℝ) : EReal) := rfl

/-- A number below 4096 becomes itself. -/
theorem sitofp_nat (n : ℕ) (h : n < 4096) :
    FloatOps.sitofp (F := Ideal) .f32 (BitVec.ofNat 32 n) = ((n : ℝ) : EReal) := by
  have key : (BitVec.ofNat 32 n).toInt = (n : ℤ) := by
    rw [BitVec.toInt_eq_toNat_of_lt] <;> simp only [BitVec.toNat_ofNat] <;> omega
  rw [sitofp_real, key, Int.cast_natCast]

/-- The difference of two numbers below 16 becomes their real difference. -/
theorem sitofp_sub (a b : ℕ) (ha : a < 16) (hb : b < 16) :
    FloatOps.sitofp (F := Ideal) .f32 (IntOp.subi (BitVec.ofNat 32 a) (BitVec.ofNat 32 b))
      = (((a : ℝ) - (b : ℝ) : ℝ) : EReal) := by
  have key : ∀ i j : Fin 16, (IntOp.subi (BitVec.ofNat 32 i.val) (BitVec.ofNat 32 j.val)).toInt
      = (i.val : ℤ) - (j.val : ℤ) := by decide +kernel
  rw [sitofp_real, key ⟨a, ha⟩ ⟨b, hb⟩]
  push_cast
  rfl

/-- Whether two numbers below 4096 are equal becomes one or zero. -/
theorem sitofp_eq (a b : ℕ) (ha : a < 4096) (hb : b < 4096) :
    FloatOps.sitofp (F := Ideal) .f32 (BitVec.setWidth 32 (IntOp.cmpi .eq (BitVec.ofNat 32 a) (BitVec.ofNat 32 b)))
      = ((if a = b then 1 else 0 : ℝ) : EReal) := by
  by_cases h : a = b
  · subst h
    simp [IntOp.cmpi, sitofp_real]
  · have h' : BitVec.ofNat 32 a ≠ BitVec.ofNat 32 b := fun e => h (by
      have := congrArg BitVec.toNat e
      simp only [BitVec.toNat_ofNat] at this
      omega)
    simp [IntOp.cmpi, sitofp_real, h, beq_eq_false_iff_ne.mpr h']

/-- The constant two. -/
theorem bits_two : Ideal.ofBits .f32 0x40000000#32 = ((2 : ℝ) : EReal) := by
  simp [Ideal.ofBits, Ideal.ieee, -EReal.coe_mul]; norm_num

/-- The constant minus two. -/
theorem bits_neg_two : Ideal.ofBits .f32 0xC0000000#32 = ((-2 : ℝ) : EReal) := by
  simp [Ideal.ofBits, Ideal.ieee, -EReal.coe_mul]; norm_num

/-- The constant one half. -/
theorem bits_half : Ideal.ofBits .f32 0x3F000000#32 = ((1 / 2 : ℝ) : EReal) := by
  simp [Ideal.ofBits, Ideal.ieee, -EReal.coe_mul]; norm_num

/-- The constant from which a running maximum starts is the least extended real. -/
theorem bits_bot : Ideal.ofBits .f32 0xFF800000#32 = (⊥ : EReal) := by
  simp [Ideal.ofBits, Ideal.ieee]

end Cert.Crf

end
-- ==== Proof.Features.lean ====
/-
  The intensity features: feature `k` of an intensity `x` is `exp (-2 x^2) (2 x)^k / sqrt (k!)`, which the kernel builds one
  from the other, in rows of 4096 voxels and again in slabs of 16 by 256.
-/
module

public import proofs.«01_k».proof.Proof.Words

@[expose] public section

set_option maxRecDepth 16384

noncomputable section

namespace Cert.Crf

open Idealize.ShloMosaic Cert.KernelIdeal Cert.KernelIdeal.Gen

/-- The reciprocal square root by which feature `k` is scaled. -/
def rs (k : ℕ) : ℝ := (Real.sqrt (k : ℝ))⁻¹

/-- Feature `k` of the intensity `x`. -/
def phi : ℕ → ℝ → ℝ
  | 0, x => Real.exp (-2 * x * x)
  | k + 1, x => phi k x * (2 * x) * rs (k + 1)

/-- The constant named `s2` is the reciprocal square root of 2. -/
theorem named_s2 (b : BitVec FTy.f32.bits) : Named.named (F := Ideal) κ "s2" b = ((rs 2 : ℝ) : EReal) := by
  rw [IdealRules.named_const.ideal_named_scalar κ "s2" b _ rfl]
  norm_num [rs]

/-- The constant named `s3` is the reciprocal square root of 3. -/
theorem named_s3 (b : BitVec FTy.f32.bits) : Named.named (F := Ideal) κ "s3" b = ((rs 3 : ℝ) : EReal) := by
  rw [IdealRules.named_const.ideal_named_scalar κ "s3" b _ rfl]
  norm_num [rs]

/-- The constant named `s5` is the reciprocal square root of 5. -/
theorem named_s5 (b : BitVec FTy.f32.bits) : Named.named (F := Ideal) κ "s5" b = ((rs 5 : ℝ) : EReal) := by
  rw [IdealRules.named_const.ideal_named_scalar κ "s5" b _ rfl]
  norm_num [rs]

/-- The constant named `s6` is the reciprocal square root of 6. -/
theorem named_s6 (b : BitVec FTy.f32.bits) : Named.named (F := Ideal) κ "s6" b = ((rs 6 : ℝ) : EReal) := by
  rw [IdealRules.named_const.ideal_named_scalar κ "s6" b _ rfl]
  norm_num [rs]

/-- The constant named `s7` is the reciprocal square root of 7. -/
theorem named_s7 (b : BitVec FTy.f32.bits) : Named.named (F := Ideal) κ "s7" b = ((rs 7 : ℝ) : EReal) := by
  rw [IdealRules.named_const.ideal_named_scalar κ "s7" b _ rfl]
  norm_num [rs]

/-- The constant named `s8` is the reciprocal square root of 8. -/
theorem named_s8 (b : BitVec FTy.f32.bits) : Named.named (F := Ideal) κ "s8" b = ((rs 8 : ℝ) : EReal) := by
  rw [IdealRules.named_const.ideal_named_scalar κ "s8" b _ rfl]
  norm_num [rs]

/-- The constant named `s10` is the reciprocal square root of 10. -/
theorem named_s10 (b : BitVec FTy.f32.bits) : Named.named (F := Ideal) κ "s10" b = ((rs 10 : ℝ) : EReal) := by
  rw [IdealRules.named_const.ideal_named_scalar κ "s10" b _ rfl]
  norm_num [rs]

/-- The constant named `s11` is the reciprocal square root of 11. -/
theorem named_s11 (b : BitVec FTy.f32.bits) : Named.named (F := Ideal) κ "s11" b = ((rs 11 : ℝ) : EReal) := by
  rw [IdealRules.named_const.ideal_named_scalar κ "s11" b _ rfl]
  norm_num [rs]

/-- The constant named `s12` is the reciprocal square root of 12. -/
theorem named_s12 (b : BitVec FTy.f32.bits) : Named.named (F := Ideal) κ "s12" b = ((rs 12 : ℝ) : EReal) := by
  rw [IdealRules.named_const.ideal_named_scalar κ "s12" b _ rfl]
  norm_num [rs]

/-- The constant named `s13` is the reciprocal square root of 13. -/
theorem named_s13 (b : BitVec FTy.f32.bits) : Named.named (F := Ideal) κ "s13" b = ((rs 13 : ℝ) : EReal) := by
  rw [IdealRules.named_const.ideal_named_scalar κ "s13" b _ rfl]
  norm_num [rs]

/-- The constant named `s14` is the reciprocal square root of 14. -/
theorem named_s14 (b : BitVec FTy.f32.bits) : Named.named (F := Ideal) κ "s14" b = ((rs 14 : ℝ) : EReal) := by
  rw [IdealRules.named_const.ideal_named_scalar κ "s14" b _ rfl]
  norm_num [rs]

/-- The constant named `s15` is the reciprocal square root of 15. -/
theorem named_s15 (b : BitVec FTy.f32.bits) : Named.named (F := Ideal) κ "s15" b = ((rs 15 : ℝ) : EReal) := by
  rw [IdealRules.named_const.ideal_named_scalar κ "s15" b _ rfl]
  norm_num [rs]

/-- The constant named `r3` is the reciprocal square root of nine. -/
theorem named_r3 (b : BitVec FTy.f32.bits) : Named.named (F := Ideal) κ "r3" b = ((rs 9 : ℝ) : EReal) := by
  rw [IdealRules.named_const.ideal_named_scalar κ "r3" b _ rfl, rs,
    show Real.sqrt ((9 : ℕ) : ℝ) = 3 by rw [show ((9 : ℕ) : ℝ) = 3 ^ 2 by norm_num]; exact Real.sqrt_sq (by norm_num)]
  norm_num

/-- One half is the reciprocal square root of four. -/
theorem half_rs : Ideal.ofBits .f32 0x3F000000#32 = ((rs 4 : ℝ) : EReal) := by
  rw [bits_half, rs,
    show Real.sqrt ((4 : ℕ) : ℝ) = 2 by rw [show ((4 : ℕ) : ℝ) = 2 ^ 2 by norm_num]; exact Real.sqrt_sq (by norm_num)]
  norm_num

/-- The constant named `a` is the coefficient of the wide Gaussian. -/
theorem named_a (b : BitVec FTy.f32.bits) : Named.named (F := Ideal) κ "a" b = ((-1 / 12800 : ℝ) : EReal) :=
  IdealRules.named_const.ideal_named_scalar κ "a" b _ rfl

/-- The constant named `c` is the coefficient of the narrow Gaussian. -/
theorem named_c (b : BitVec FTy.f32.bits) : Named.named (F := Ideal) κ "c" b = ((-1 / 18 : ℝ) : EReal) :=
  IdealRules.named_const.ideal_named_scalar κ "c" b _ rfl

/-- The first feature is not scaled. -/
theorem rs_one : rs 1 = 1 := by simp [rs]

/-- One step of the recurrence, over the extended reals: the next feature from the one before. -/
theorem phi_step (k : ℕ) (x : ℝ) {p t c : EReal} (hp : p = ((phi k x : ℝ) : EReal)) (ht : t = ((2 * x : ℝ) : EReal))
    (hc : c = ((rs (k + 1) : ℝ) : EReal)) : p * t * c = ((phi (k + 1) x : ℝ) : EReal) := by
  rw [hp, ht, hc, ← EReal.coe_mul, ← EReal.coe_mul, phi]

/-- Feature zero, over the extended reals. -/
theorem phi_zero (x : ℝ) {v : EReal} (hv : v = (x : EReal)) :
    Ideal.exp (((-2 : ℝ) : EReal) * v * v) = ((phi 0 x : ℝ) : EReal) := by
  rw [hv, ← EReal.coe_mul, ← EReal.coe_mul, Ideal.exp_coe, phi]

section Rows

variable {v : FVec Ideal S1x4096 .f32} {f : Fin 4096 → ℝ}

/-- Twice the intensities, over the row of voxels. -/
theorem row_two (h : ∀ n, v (ix2 0 n) = (f n : EReal)) (n : Fin 4096) : k0_pay12 v (ix2 0 n) = ((2 * f n : ℝ) : EReal) := by
  pointwise [k0_pay12, bits_two, h]
  rw [EReal.coe_mul]

/-- Feature 0 of every voxel. -/
theorem row_0 (h : ∀ n, v (ix2 0 n) = (f n : EReal)) (n : Fin 4096) : k0_pay13 v (ix2 0 n) = ((phi 0 (f n) : ℝ) : EReal) := by
  pointwise [k0_pay13, bits_neg_two]
  exact phi_zero (f n) (h n)

/-- Feature 1 of every voxel. -/
theorem row_1 (h : ∀ n, v (ix2 0 n) = (f n : EReal)) (n : Fin 4096) : k0_pay14 v (ix2 0 n) = ((phi 1 (f n) : ℝ) : EReal) := by
  pointwise [k0_pay14]
  rw [← phi_step 0 (f n) (row_0 h n) (row_two h n) rfl, rs_one, EReal.coe_one, mul_one]

/-- Feature 2 of every voxel. -/
theorem row_2 (h : ∀ n, v (ix2 0 n) = (f n : EReal)) (n : Fin 4096) : k0_pay15 v (ix2 0 n) = ((phi 2 (f n) : ℝ) : EReal) := by
  pointwise [k0_pay15]
  exact phi_step 1 (f n) (row_1 h n) (row_two h n) (named_s2 _)

/-- Feature 3 of every voxel. -/
theorem row_3 (h : ∀ n, v (ix2 0 n) = (f n : EReal)) (n : Fin 4096) : k0_pay16 v (ix2 0 n) = ((phi 3 (f n) : ℝ) : EReal) := by
  pointwise [k0_pay16]
  exact phi_step 2 (f n) (row_2 h n) (row_two h n) (named_s3 _)

/-- Feature 4 of every voxel. -/
theorem row_4 (h : ∀ n, v (ix2 0 n) = (f n : EReal)) (n : Fin 4096) : k0_pay17 v (ix2 0 n) = ((phi 4 (f n) : ℝ) : EReal) := by
  pointwise [k0_pay17]
  exact phi_step 3 (f n) (row_3 h n) (row_two h n) half_rs

/-- Feature 5 of every voxel. -/
theorem row_5 (h : ∀ n, v (ix2 0 n) = (f n : EReal)) (n : Fin 4096) : k0_pay18 v (ix2 0 n) = ((phi 5 (f n) : ℝ) : EReal) := by
  pointwise [k0_pay18]
  exact phi_step 4 (f n) (row_4 h n) (row_two h n) (named_s5 _)

/-- Feature 6 of every voxel. -/
theorem row_6 (h : ∀ n, v (ix2 0 n) = (f n : EReal)) (n : Fin 4096) : k0_pay19 v (ix2 0 n) = ((phi 6 (f n) : ℝ) : EReal) := by
  pointwise [k0_pay19]
  exact phi_step 5 (f n) (row_5 h n) (row_two h n) (named_s6 _)

/-- Feature 7 of every voxel. -/
theorem row_7 (h : ∀ n, v (ix2 0 n) = (f n : EReal)) (n : Fin 4096) : k0_pay20 v (ix2 0 n) = ((phi 7 (f n) : ℝ) : EReal) := by
  pointwise [k0_pay20]
  exact phi_step 6 (f n) (row_6 h n) (row_two h n) (named_s7 _)

/-- Feature 8 of every voxel. -/
theorem row_8 (h : ∀ n, v (ix2 0 n) = (f n : EReal)) (n : Fin 4096) :
    k0_pay21 (k0_pay12 v) (k0_pay20 v) (ix2 0 n) = ((phi 8 (f n) : ℝ) : EReal) := by
  pointwise [k0_pay21]
  exact phi_step 7 (f n) (row_7 h n) (row_two h n) (named_s8 _)

/-- Feature 9 of every voxel. -/
theorem row_9 (h : ∀ n, v (ix2 0 n) = (f n : EReal)) (n : Fin 4096) :
    k0_pay22 (k0_pay12 v) (k0_pay20 v) (ix2 0 n) = ((phi 9 (f n) : ℝ) : EReal) := by
  pointwise [k0_pay22]
  exact phi_step 8 (f n) (row_8 h n) (row_two h n) (named_r3 _)

/-- Feature 10 of every voxel. -/
theorem row_10 (h : ∀ n, v (ix2 0 n) = (f n : EReal)) (n : Fin 4096) :
    k0_pay23 (k0_pay12 v) (k0_pay20 v) (ix2 0 n) = ((phi 10 (f n) : ℝ) : EReal) := by
  pointwise [k0_pay23]
  exact phi_step 9 (f n) (row_9 h n) (row_two h n) (named_s10 _)

/-- Feature 11 of every voxel. -/
theorem row_11 (h : ∀ n, v (ix2 0 n) = (f n : EReal)) (n : Fin 4096) :
    k0_pay24 (k0_pay12 v) (k0_pay20 v) (ix2 0 n) = ((phi 11 (f n) : ℝ) : EReal) := by
  pointwise [k0_pay24]
  exact phi_step 10 (f n) (row_10 h n) (row_two h n) (named_s11 _)

/-- Feature 12 of every voxel. -/
theorem row_12 (h : ∀ n, v (ix2 0 n) = (f n : EReal)) (n : Fin 4096) :
    k0_pay25 (k0_pay12 v) (k0_pay20 v) (ix2 0 n) = ((phi 12 (f n) : ℝ) : EReal) := by
  pointwise [k0_pay25]
  exact phi_step 11 (f n) (row_11 h n) (row_two h n) (named_s12 _)

/-- Feature 13 of every voxel. -/
theorem row_13 (h : ∀ n, v (ix2 0 n) = (f n : EReal)) (n : Fin 4096) :
    k0_pay26 (k0_pay12 v) (k0_pay20 v) (ix2 0 n) = ((phi 13 (f n) : ℝ) : EReal) := by
  pointwise [k0_pay26]
  exact phi_step 12 (f n) (row_12 h n) (row_two h n) (named_s13 _)

/-- Feature 14 of every voxel. -/
theorem row_14 (h : ∀ n, v (ix2 0 n) = (f n : EReal)) (n : Fin 4096) :
    k0_pay27 (k0_pay12 v) (k0_pay20 v) (ix2 0 n) = ((phi 14 (f n) : ℝ) : EReal) := by
  pointwise [k0_pay27]
  exact phi_step 13 (f n) (row_13 h n) (row_two h n) (named_s14 _)

/-- Feature 15 of every voxel. -/
theorem row_15 (h : ∀ n, v (ix2 0 n) = (f n : EReal)) (n : Fin 4096) :
    k0_pay28 (k0_pay12 v) (k0_pay20 v) (ix2 0 n) = ((phi 15 (f n) : ℝ) : EReal) := by
  pointwise [k0_pay28]
  exact phi_step 14 (f n) (row_14 h n) (row_two h n) (named_s15 _)

end Rows

section Slabs

variable {v : Vec Ideal S16x256 .f32} {f : Fin 16 → Fin 256 → ℝ}

/-- Twice the intensities, over the slabs. -/
theorem slab_two (h : ∀ z w, v (ix2 z w) = (f z w : EReal)) (z : Fin 16) (w : Fin 256) :
    k0_pay52 (F := Ideal) v (ix2 z w) = ((2 * f z w : ℝ) : EReal) := by
  pointwise [k0_pay52, k0_pay50, bits_two, h]
  rw [EReal.coe_mul]

/-- Feature 0 of every voxel, slab by slab. -/
theorem slab_0 (h : ∀ z w, v (ix2 z w) = (f z w : EReal)) (z : Fin 16) (w : Fin 256) :
    k0_pay51 (F := Ideal) v (ix2 z w) = ((phi 0 (f z w) : ℝ) : EReal) := by
  pointwise [k0_pay51, k0_pay50, bits_neg_two]
  exact phi_zero (f z w) (h z w)

/-- Feature 1 of every voxel, slab by slab. -/
theorem slab_1 (h : ∀ z w, v (ix2 z w) = (f z w : EReal)) (z : Fin 16) (w : Fin 256) :
    k0_pay53 (F := Ideal) v (ix2 z w) = ((phi 1 (f z w) : ℝ) : EReal) := by
  pointwise [k0_pay53]
  rw [← phi_step 0 (f z w) (slab_0 h z w) (slab_two h z w) rfl, rs_one, EReal.coe_one, mul_one]

/-- Feature 2 of every voxel, slab by slab. -/
theorem slab_2 (h : ∀ z w, v (ix2 z w) = (f z w : EReal)) (z : Fin 16) (w : Fin 256) :
    k0_pay54 (F := Ideal) v (ix2 z w) = ((phi 2 (f z w) : ℝ) : EReal) := by
  pointwise [k0_pay54]
  exact phi_step 1 (f z w) (slab_1 h z w) (slab_two h z w) (named_s2 _)

/-- Feature 3 of every voxel, slab by slab. -/
theorem slab_3 (h : ∀ z w, v (ix2 z w) = (f z w : EReal)) (z : Fin 16) (w : Fin 256) :
    k0_pay55 (F := Ideal) v (ix2 z w) = ((phi 3 (f z w) : ℝ) : EReal) := by
  pointwise [k0_pay55]
  exact phi_step 2 (f z w) (slab_2 h z w) (slab_two h z w) (named_s3 _)

/-- Feature 4 of every voxel, slab by slab. -/
theorem slab_4 (h : ∀ z w, v (ix2 z w) = (f z w : EReal)) (z : Fin 16) (w : Fin 256) :
    k0_pay56 (F := Ideal) v (ix2 z w) = ((phi 4 (f z w) : ℝ) : EReal) := by
  pointwise [k0_pay56]
  exact phi_step 3 (f z w) (slab_3 h z w) (slab_two h z w) half_rs

/-- Feature 5 of every voxel, slab by slab. -/
theorem slab_5 (h : ∀ z w, v (ix2 z w) = (f z w : EReal)) (z : Fin 16) (w : Fin 256) :
    k0_pay57 (F := Ideal) v (ix2 z w) = ((phi 5 (f z w) : ℝ) : EReal) := by
  pointwise [k0_pay57]
  exact phi_step 4 (f z w) (slab_4 h z w) (slab_two h z w) (named_s5 _)

/-- Feature 6 of every voxel, slab by slab. -/
theorem slab_6 (h : ∀ z w, v (ix2 z w) = (f z w : EReal)) (z : Fin 16) (w : Fin 256) :
    k0_pay58 (F := Ideal) v (ix2 z w) = ((phi 6 (f z w) : ℝ) : EReal) := by
  pointwise [k0_pay58]
  exact phi_step 5 (f z w) (slab_5 h z w) (slab_two h z w) (named_s6 _)

/-- Feature 7 of every voxel, slab by slab. -/
theorem slab_7 (h : ∀ z w, v (ix2 z w) = (f z w : EReal)) (z : Fin 16) (w : Fin 256) :
    k0_pay59 (F := Ideal) v (ix2 z w) = ((phi 7 (f z w) : ℝ) : EReal) := by
  pointwise [k0_pay59]
  exact phi_step 6 (f z w) (slab_6 h z w) (slab_two h z w) (named_s7 _)

/-- Feature 8 of every voxel, slab by slab. -/
theorem slab_8 (h : ∀ z w, v (ix2 z w) = (f z w : EReal)) (z : Fin 16) (w : Fin 256) :
    k0_pay60 (F := Ideal) v (ix2 z w) = ((phi 8 (f z w) : ℝ) : EReal) := by
  pointwise [k0_pay60]
  exact phi_step 7 (f z w) (slab_7 h z w) (slab_two h z w) (named_s8 _)

/-- Feature 9 of every voxel, slab by slab. -/
theorem slab_9 (h : ∀ z w, v (ix2 z w) = (f z w : EReal)) (z : Fin 16) (w : Fin 256) :
    k0_pay61 (F := Ideal) v (ix2 z w) = ((phi 9 (f z w) : ℝ) : EReal) := by
  pointwise [k0_pay61]
  exact phi_step 8 (f z w) (slab_8 h z w) (slab_two h z w) (named_r3 _)

/-- Feature 10 of every voxel, slab by slab. -/
theorem slab_10 (h : ∀ z w, v (ix2 z w) = (f z w : EReal)) (z : Fin 16) (w : Fin 256) :
    k0_pay62 (F := Ideal) v (ix2 z w) = ((phi 10 (f z w) : ℝ) : EReal) := by
  pointwise [k0_pay62]
  exact phi_step 9 (f z w) (slab_9 h z w) (slab_two h z w) (named_s10 _)

/-- Feature 11 of every voxel, slab by slab. -/
theorem slab_11 (h : ∀ z w, v (ix2 z w) = (f z w : EReal)) (z : Fin 16) (w : Fin 256) :
    k0_pay63 (F := Ideal) v (ix2 z w) = ((phi 11 (f z w) : ℝ) : EReal) := by
  pointwise [k0_pay63]
  exact phi_step 10 (f z w) (slab_10 h z w) (slab_two h z w) (named_s11 _)

end Slabs

end Cert.Crf

end
-- ==== Proof.Model.lean ====
/-
  The mathematics in real numbers: the Gaussian of the distance of two voxels, its splitting into a factor of the slices and
  a factor of the positions inside a slice, and the mean-field update that the kernel and the references compute.
-/
module

public import proofs.«01_k».proof.Proof.Reals

@[expose] public section

noncomputable section

namespace Cert.Crf

/-- The Gaussian, of exponent `a` times the square, of the difference of two numbers. -/
def line (a : ℝ) (i j : ℕ) : ℝ := Real.exp (a * (((i : ℝ) - (j : ℝ)) * ((i : ℝ) - (j : ℝ))))

/-- The Gaussian of two positions inside a slice of 16 by 16. -/
def plane (a : ℝ) (r c : ℕ) : ℝ := line a (r / 16) (c / 16) * line a (r % 16) (c % 16)

/-- The squared distance of two voxels of the 16 by 16 by 16 grid. -/
def dist (m n : Fin 4096) : ℝ :=
  (((m.val / 256 : ℕ) : ℝ) - ((n.val / 256 : ℕ) : ℝ)) ^ 2
    + (((m.val / 16 % 16 : ℕ) : ℝ) - ((n.val / 16 % 16 : ℕ) : ℝ)) ^ 2
    + (((m.val % 16 : ℕ) : ℝ) - ((n.val % 16 : ℕ) : ℝ)) ^ 2

/-- The Gaussian of the distance of two voxels. -/
def gauss (a : ℝ) (m n : Fin 4096) : ℝ := Real.exp (a * dist m n)

/-- The voxel at position `w` of slice `z`. -/
def vox (z : Fin 16) (w : Fin 256) : Fin 4096 := ⟨z.val * 256 + w.val, by omega⟩

/-- The Gaussian of two voxels is the Gaussian of their slices times that of their positions inside the slice. -/
theorem gauss_split (a : ℝ) (z : Fin 16) (w : Fin 256) (n : Fin 4096) :
    gauss a (vox z w) n = line a z.val (n.val / 256) * plane a w.val (n.val % 256) := by
  have e1 : (z.val * 256 + w.val) / 256 = z.val := by omega
  have e2 : (z.val * 256 + w.val) / 16 % 16 = w.val / 16 := by omega
  have e3 : (z.val * 256 + w.val) % 16 = w.val % 16 := by omega
  have e4 : n.val % 256 / 16 = n.val / 16 % 16 := by omega
  have e5 : n.val % 256 % 16 = n.val % 16 := by omega
  simp only [gauss, dist, vox, line, plane, e1, e2, e3, e4, e5, ← Real.exp_add]
  congr 1
  ring

/-- The Gaussian of two voxels is the product of the Gaussians of their three coordinates. -/
theorem gauss_three (a : ℝ) (m n : Fin 4096) :
    gauss a m n = line a (m.val / 256) (n.val / 256) * line a (m.val / 16 % 16) (n.val / 16 % 16)
      * line a (m.val % 16) (n.val % 16) := by
  simp only [gauss, dist, line, ← Real.exp_add]
  congr 1
  ring

/-- The one-dimensional Gaussian is symmetric. -/
theorem line_symm (a : ℝ) (i j : ℕ) : line a i j = line a j i := by
  simp only [line]; congr 1; ring

/-- The squared distance of two voxels is symmetric. -/
theorem dist_symm (m n : Fin 4096) : dist m n = dist n m := by
  simp only [dist]; ring

/-- The Gaussian of two voxels is symmetric. -/
theorem gauss_symm (a : ℝ) (m n : Fin 4096) : gauss a m n = gauss a n m := by
  rw [gauss, gauss, dist_symm]

/-- The squared distance of two voxels is not negative. -/
theorem dist_nonneg (m n : Fin 4096) : 0 ≤ dist m n := by
  unfold dist; positivity

/-- The sum over 256 numbers is the sum over their quotients by 16 and their remainders. -/
theorem sum_256 {M : Type*} [AddCommMonoid M] (f : Fin 256 → M) :
    ∑ x, f x = ∑ i : Fin 16, ∑ j : Fin 16, f ⟨i.val * 16 + j.val, by omega⟩ := by
  rw [← (finProdFinEquiv (m := 16) (n := 16)).sum_comp (g := f), Fintype.sum_prod_type]
  refine Finset.sum_congr rfl fun z _ => Finset.sum_congr rfl fun w _ => congrArg f (Fin.ext ?_)
  simp only [finProdFinEquiv, Equiv.coe_fn_mk]
  omega

/-- Of the sum over 256 numbers, those of quotient `l` by 16 kept. -/
theorem sum_quot (l : ℕ) (hl : l < 16) (f : Fin 256 → ℝ) :
    (∑ x : Fin 256, (if x.val / 16 = l then 1 else 0) * f x) = ∑ j : Fin 16, f ⟨l * 16 + j.val, by omega⟩ := by
  rw [sum_256, Finset.sum_eq_single ⟨l, hl⟩]
  · refine Finset.sum_congr rfl fun j _ => ?_
    dsimp only
    rw [if_pos (by omega), one_mul]
  · intro i _ hi
    refine Finset.sum_eq_zero fun j _ => ?_
    rw [if_neg, zero_mul]
    intro e
    exact hi (Fin.ext (by dsimp only at e ⊢; omega))
  · intro h; exact absurd (Finset.mem_univ _) h

/-- Of the sum over 256 numbers, those of remainder `l` by 16 kept. -/
theorem sum_rem (l : ℕ) (hl : l < 16) (f : Fin 256 → ℝ) :
    (∑ x : Fin 256, (if x.val % 16 = l then 1 else 0) * f x) = ∑ i : Fin 16, f ⟨i.val * 16 + l, by omega⟩ := by
  rw [sum_256]
  refine Finset.sum_congr rfl fun i _ => ?_
  rw [Finset.sum_eq_single ⟨l, hl⟩]
  · dsimp only
    rw [if_pos (by omega), one_mul]
  · intro j _ hj
    rw [if_neg, zero_mul]
    intro e
    exact hj (Fin.ext (by dsimp only at e ⊢; omega))
  · intro h; exact absurd (Finset.mem_univ _) h

/-- The message of the kernel matrix `K` from the label field `q`, normalised by the sum of the kernel's column. -/
def filter (K : Fin 4096 → Fin 4096 → ℝ) (q : Fin 4096 → ℝ) (n : Fin 4096) : ℝ :=
  (∑ m, q m * K m n) / ∑ m, K m n

/-- The labels' messages after the weights and the compatibility matrix, for the spatial kernel `Ks` and the bilateral `Kb`. -/
def message (u : Fin 16 → Fin 4096 → ℝ) (sw bw cm : Fin 16 → Fin 16 → ℝ) (Ks Kb : Fin 4096 → Fin 4096 → ℝ)
    (l : Fin 16) (n : Fin 4096) : ℝ :=
  ∑ b, cm l b * (∑ a, sw b a * filter Ks (fun m => softmax (fun k => u k m) a) n
    + ∑ a, bw b a * filter Kb (fun m => softmax (fun k => u k m) a) n)

/-- The update: the softmax over the labels of the unary terms plus the messages. -/
def crf (u : Fin 16 → Fin 4096 → ℝ) (sw bw cm : Fin 16 → Fin 16 → ℝ) (Ks Kb : Fin 4096 → Fin 4096 → ℝ)
    (l : Fin 16) (n : Fin 4096) : ℝ :=
  softmax (fun k => u k n + message u sw bw cm Ks Kb k n) l

/-- The first sixteen terms of the exponential series. -/
def taylor (t : ℝ) : ℝ := ∑ k ∈ Finset.range 16, t ^ k / (k.factorial : ℝ)

/-- The spatial kernel. -/
def Ks : Fin 4096 → Fin 4096 → ℝ := gauss (-1 / 18)

/-- The bilateral kernel of the intensities `f`, with the exponential of the product of the intensities by its series. -/
def Kt (f : Fin 4096 → ℝ) (m n : Fin 4096) : ℝ :=
  gauss (-1 / 12800) m n * (Real.exp (-2 * (f m ^ 2 + f n ^ 2)) * taylor (4 * f m * f n))

/-- The bilateral kernel of the intensities `f`. -/
def Kb (f : Fin 4096 → ℝ) (m n : Fin 4096) : ℝ :=
  gauss (-1 / 12800) m n * Real.exp (-2 * (f m - f n) ^ 2)

end Cert.Crf

end
-- ==== Proof.Tables.lean ====
/-
  The kernel's small tables read at an index: the planes of Gaussians, the identity, the block table of the slices, and the
  softmax of the unary terms.
-/
module

public import proofs.«01_k».proof.Proof.Features
public import proofs.«01_k».proof.Proof.Model

@[expose] public section

set_option maxRecDepth 16384

noncomputable section

namespace Cert.Crf

open Idealize.ShloMosaic Cert.KernelIdeal Cert.KernelIdeal.Gen

/-- The plane of the bilateral Gaussians. -/
theorem pay5_read (r c : Fin 256) : k0_pay5 (F := Ideal) (ix2 r c) = ((plane (-1 / 12800) r.val c.val : ℝ) : EReal) := by
  pointwise (disch := omega) [k0_pay5, shr4, and15, sitofp_sub, named_a]
  simp only [← EReal.coe_mul, ← EReal.coe_add, Ideal.exp_coe, plane, line, ← Real.exp_add, mul_add]

/-- The plane of the spatial Gaussians. -/
theorem pay9_read (r c : Fin 256) :
    k0_pay9 (F := Ideal) (iota .tc S256x256 32 [1] iota_S256x256_d1_w32) (k0_pay6 (F := Ideal)) k0_pay7 k0_pay8 (ix2 r c)
      = ((plane (-1 / 18) r.val c.val : ℝ) : EReal) := by
  pointwise (disch := omega) [k0_pay9, k0_pay6, k0_pay7, k0_pay8, shr4, and15, sitofp_sub, named_c]
  simp only [← EReal.coe_mul, ← EReal.coe_add, Ideal.exp_coe, plane, line, ← Real.exp_add, mul_add]

/-- The table of the bilateral Gaussians of two slices. -/
theorem pay10_read (r c : Fin 16) : k0_pay10 (F := Ideal) (ix2 r c) = ((line (-1 / 12800) r.val c.val : ℝ) : EReal) := by
  pointwise (disch := omega) [k0_pay10, sitofp_sub, named_a]
  simp only [← EReal.coe_mul, Ideal.exp_coe, line, mul_assoc]

/-- The identity table. -/
theorem pay11_read (r c : Fin 16) : k0_pay11 (F := Ideal) (ix2 r c) = ((if r.val = c.val then 1 else 0 : ℝ) : EReal) := by
  pointwise (disch := omega) [k0_pay11, sitofp_eq]

/-- The block table: the bilateral Gaussian of two slices where the two features agree. -/
theorem pay48_read (r c : Fin 256) : k0_pay48 (F := Ideal) (ix2 r c)
      = (((if r.val / 16 = c.val / 16 then 1 else 0) * line (-1 / 12800) (r.val % 16) (c.val % 16) : ℝ) : EReal) := by
  pointwise (disch := omega) [k0_pay48, shr4, and15, sitofp_sub, sitofp_eq, named_a]
  simp only [← EReal.coe_mul, Ideal.exp_coe, line, mul_assoc]

/-- The softmax of the unary terms over the labels. -/
theorem pay4_read {v : Vec Ideal S16x4096 .f32} {u : Fin 16 → Fin 4096 → ℝ} (h : ∀ l n, v (ix2 l n) = (u l n : EReal))
    (l : Fin 16) (n : Fin 4096) :
    k0_pay4 (F := Ideal) v (ix2 l n) = ((softmax (fun k => u k n) l : ℝ) : EReal) := by
  pointwise [k0_pay4, k0_pay2, bits_bot]
  exact softmax_coe (fun k => v (ix2 k n)) (fun k => u k n) (fun k => h k n) l

end Cert.Crf

end
-- ==== Proof.BilateralSum.lean ====
module

public import proofs.«01_k».proof.Proof.Tables
public import proofs.«01_k».proof.Proof.Features

/-!
The numerator of the bilateral filter as the kernel computes it: sixteen scaled copies of the
softmax stacked into 256 rows, blurred separably, weighted by the features of the output voxel
and summed over the features.
-/

@[expose] public section

set_option maxRecDepth 16384

noncomputable section

namespace Cert.Crf

open Idealize.ShloMosaic Cert.KernelIdeal Cert.KernelIdeal.Gen

/-- Row `c` of sixteen stacked arrays of sixteen rows is row `c mod 16` of array `c div 16`. -/
theorem concat_rows (F : Fin 16 → FVec Ideal S16x4096 .f32)
    (h : Shape.Concatenates ((List.ofFn fun k : Fin 16 => (⟨S16x4096, F k⟩ : (s : Shape) × (s.Idx → Ideal .f32))).map (·.1)) S256x4096 0)
    (c : Fin 256) (n : Fin 4096) :
    concatenate S256x4096 0 (List.ofFn fun k : Fin 16 => (⟨S16x4096, F k⟩ : (s : Shape) × (s.Idx → Ideal .f32))) h (ix2 c n)
      = F ⟨c.val / 16, by omega⟩ (ix2 ⟨c.val % 16, by omega⟩ n) := by
  refine concatenate_ofFn_apply 0 F h rfl 16 rfl _ _ rfl _ rfl ?_
  intro b hb
  fin_cases b
  · exact absurd rfl hb
  · rfl

/-- Row `k` of sixteen stacked single rows is row number `k`. -/
theorem concat_singles (F : Fin 16 → FVec Ideal S1x4096 .f32)
    (h : Shape.Concatenates ((List.ofFn fun k : Fin 16 => (⟨S1x4096, F k⟩ : (s : Shape) × (s.Idx → Ideal .f32))).map (·.1)) S16x4096 0)
    (k : Fin 16) (n : Fin 4096) :
    concatenate S16x4096 0 (List.ofFn fun k : Fin 16 => (⟨S1x4096, F k⟩ : (s : Shape) × (s.Idx → Ideal .f32))) h (ix2 k n)
      = F k (ix2 0 n) := by
  refine concatenate_ofFn_apply 0 F h rfl 1 rfl _ k (Nat.div_one _) _ (Nat.mod_one _).symm ?_
  intro b hb
  fin_cases b
  · exact absurd rfl hb
  · rfl

/-- The integer quotient by sixteen, as the kernel spells it out of the rounding division. -/
theorem floor_div_16 : ∀ c : Fin 256,
    Scalar.select
      (IntOp.andi
        (IntOp.cmpi CmpIPredicate.ne
          (IntOp.subi (BitVec.setWidth 32 (IntOp.cmpi CmpIPredicate.sgt (BitVec.ofNat 32 ↑c) 0#32))
            (BitVec.setWidth 32 (IntOp.cmpi CmpIPredicate.slt (BitVec.ofNat 32 ↑c) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 ↑c) 16#32) 0#32))
      (IntOp.subi (IntOp.divsi ArithUnit.vector (BitVec.ofNat 32 ↑c) 16#32) 1#32)
      (IntOp.divsi ArithUnit.vector (BitVec.ofNat 32 ↑c) 16#32) = BitVec.ofNat 32 (c.val / 16) := by
  decide +kernel

/-- The integer remainder by sixteen, as the kernel spells it out of the signed remainder. -/
theorem floor_mod_16 : ∀ c : Fin 256,
    Scalar.select
      (IntOp.andi
        (IntOp.xori
          (IntOp.cmpi CmpIPredicate.slt
            (IntOp.remsi ArithUnit.vector (BitVec.ofNat 32 ↑c)
              (Scalar.select (Scalar.cmpi CmpIPredicate.eq 16#32 0#32) 1#32 16#32))
            0#32)
          (Scalar.cmpi CmpIPredicate.slt
            (Scalar.select (Scalar.cmpi CmpIPredicate.eq 16#32 0#32) 1#32 16#32) 0#32))
        (IntOp.cmpi CmpIPredicate.ne
          (IntOp.remsi ArithUnit.vector (BitVec.ofNat 32 ↑c)
            (Scalar.select (Scalar.cmpi CmpIPredicate.eq 16#32 0#32) 1#32 16#32))
          0#32))
      (IntOp.addi
        (IntOp.remsi ArithUnit.vector (BitVec.ofNat 32 ↑c)
          (Scalar.select (Scalar.cmpi CmpIPredicate.eq 16#32 0#32) 1#32 16#32))
        (Scalar.select (Scalar.cmpi CmpIPredicate.eq 16#32 0#32) 1#32 16#32))
      (IntOp.remsi ArithUnit.vector (BitVec.ofNat 32 ↑c)
        (Scalar.select (Scalar.cmpi CmpIPredicate.eq 16#32 0#32) 1#32 16#32)) = BitVec.ofNat 32 (c.val % 16) := by
  decide +kernel

section Sum

variable {v : FVec Ideal S1x4096 .f32} {f : Fin 4096 → ℝ} {q : FVec Ideal S16x4096 .f32} {s : Fin 16 → Fin 4096 → ℝ}

/-- The sixteen rows of features of the voxels. -/
def rowF (v : FVec Ideal S1x4096 .f32) : Fin 16 → FVec Ideal S1x4096 .f32 :=
  ![k0_pay13 v, k0_pay14 v, k0_pay15 v, k0_pay16 v, k0_pay17 v, k0_pay18 v, k0_pay19 v, k0_pay20 v,
    k0_pay21 (k0_pay12 v) (k0_pay20 v), k0_pay22 (k0_pay12 v) (k0_pay20 v), k0_pay23 (k0_pay12 v) (k0_pay20 v),
    k0_pay24 (k0_pay12 v) (k0_pay20 v), k0_pay25 (k0_pay12 v) (k0_pay20 v), k0_pay26 (k0_pay12 v) (k0_pay20 v),
    k0_pay27 (k0_pay12 v) (k0_pay20 v), k0_pay28 (k0_pay12 v) (k0_pay20 v)]

/-- Row `k` of the features holds feature `k` of the voxels' intensities. -/
theorem rowF_read (h : ∀ n, v (ix2 0 n) = (f n : EReal)) (k : Fin 16) (n : Fin 4096) :
    rowF v k (ix2 0 n) = ((phi k.val (f n) : ℝ) : EReal) := by
  fin_cases k
  exacts [row_0 h n, row_1 h n, row_2 h n, row_3 h n, row_4 h n, row_5 h n, row_6 h n, row_7 h n, row_8 h n,
    row_9 h n, row_10 h n, row_11 h n, row_12 h n, row_13 h n, row_14 h n, row_15 h n]

/-- An array of sixteen rows with each row scaled by one row of features. -/
def scaled (q : FVec Ideal S16x4096 .f32) (r : FVec Ideal S1x4096 .f32) : FVec Ideal S16x4096 .f32 :=
  mulf q (broadcastTo S16x4096 r broadcasts_S1x4096_S16x4096)

/-- What a scaled array holds. -/
theorem scaled_read (r : FVec Ideal S1x4096 .f32) (l : Fin 16) (n : Fin 4096) :
    scaled q r (ix2 l n) = q (ix2 l n) * r (ix2 0 n) := by
  pointwise [scaled]

/-- The stacked features of the voxels. -/
def featRows (v : FVec Ideal S1x4096 .f32) : FVec Ideal S16x4096 .f32 :=
  k0_pay44 (rowF v 0) (rowF v 1) (rowF v 2) (rowF v 3) (rowF v 4) (rowF v 5) (rowF v 6) (rowF v 7) (rowF v 8) (rowF v 9)
    (rowF v 10) (rowF v 11) (rowF v 12) (rowF v 13) (rowF v 14) (rowF v 15)

/-- The stacked features hold feature `k` in row `k`. -/
theorem featRows_read (h : ∀ n, v (ix2 0 n) = (f n : EReal)) (k : Fin 16) (n : Fin 4096) :
    featRows v (ix2 k n) = ((phi k.val (f n) : ℝ) : EReal) :=
  (concat_singles (rowF v) concatenates_S1x4096_S1x4096_S1x4096_S1x4096_S1x4096_S1x4096_S1x4096_S1x4096_S1x4096_S1x4096_S1x4096_S1x4096_S1x4096_S1x4096_S1x4096_S1x4096_S16x4096_d0 k n).trans (rowF_read h k n)

/-- The scaled copies of the softmax, blurred by the Gaussians of the plane and of the slices. -/
def blurred (q : FVec Ideal S16x4096 .f32) (v : FVec Ideal S1x4096 .f32) : FVec Ideal S4096x256 .f32 :=
  k0_pay43 q (k0_pay5 (F := Ideal)) (k0_pay10 (F := Ideal)) (rowF v 14) (rowF v 15) (scaled q (rowF v 0)) (scaled q (rowF v 1)) (scaled q (rowF v 2))
    (scaled q (rowF v 3)) (scaled q (rowF v 4)) (scaled q (rowF v 5)) (scaled q (rowF v 6)) (scaled q (rowF v 7))
    (scaled q (rowF v 8)) (scaled q (rowF v 9)) (scaled q (rowF v 10)) (scaled q (rowF v 11)) (scaled q (rowF v 12))
    (scaled q (rowF v 13))

/-- The blurred copies: column `c` holds the blur of label `c mod 16` scaled by feature `c div 16`. -/
theorem blurred_read (hq : ∀ l n, q (ix2 l n) = (s l n : EReal)) (h : ∀ n, v (ix2 0 n) = (f n : EReal))
    (n : Fin 4096) (c : Fin 256) :
    blurred q v (ix2 n c)
      = ((∑ m, s ⟨c.val % 16, by omega⟩ m * phi (c.val / 16) (f m) * gauss (-1 / 12800) m n : ℝ) : EReal) := by
  unfold blurred k0_pay43
  dsimp only
  generalize hc : concatenate S256x4096 0 _ _ = t
  have ht : ∀ c n, t (ix2 c n) = ((s ⟨c.val % 16, by omega⟩ n * phi (c.val / 16) (f n) : ℝ) : EReal) := by
    subst hc
    intro c n
    refine (concat_rows (fun k => scaled q (rowF v k)) _ c n).trans ?_
    rw [scaled_read, hq, rowF_read h, ← EReal.coe_mul]
  have hx : ∀ x : Fin 16, (c.val * 16 + (x.val * 256 + (n.val % 256 * 256 + c.val) / 256) / 256) % 16 = x.val := by
    intro x
    have e1 : (n.val % 256 * 256 + c.val) / 256 = n.val % 256 := by omega
    have e2 : (x.val * 256 + n.val % 256) / 256 = x.val := by omega
    rw [e1, e2]
    omega
  have hy : ∀ x : Fin 16, (x.val * 256 + (n.val % 256 * 256 + c.val) / 256) % 256 = n.val % 256 := by
    intro x; omega
  pointwise [ht, pay5_read, pay10_read]
  simp only [← EReal.coe_mul, coe_sum, hx, hy]
  congr 1
  rw [sum_slices]
  refine Finset.sum_congr rfl fun z _ => ?_
  rw [Finset.mul_sum]
  refine Finset.sum_congr rfl fun w _ => ?_
  have := gauss_split (-1 / 12800) z w n
  rw [vox] at this
  rw [this, line_symm _ (n.val / 256) z.val]
  ring

/-- The features repeated over the labels: column `c` holds feature `c div 16`. -/
theorem repeated_read (h : ∀ n, v (ix2 0 n) = (f n : EReal)) (n : Fin 4096) (c : Fin 256) :
    k0_pay45 (k0_pay11 (F := Ideal)) (rowF v 0) (rowF v 1) (rowF v 2) (rowF v 3) (rowF v 4) (rowF v 5) (rowF v 6) (rowF v 7) (rowF v 8) (rowF v 9)
      (rowF v 10) (rowF v 11) (rowF v 12) (rowF v 13) (rowF v 14) (rowF v 15) (ix2 n c)
      = ((phi (c.val / 16) (f n) : ℝ) : EReal) := by
  have hp := featRows_read h
  unfold featRows at hp
  unfold k0_pay45
  generalize k0_pay44 (rowF v 0) (rowF v 1) (rowF v 2) (rowF v 3) (rowF v 4) (rowF v 5) (rowF v 6) (rowF v 7) (rowF v 8)
    (rowF v 9) (rowF v 10) (rowF v 11) (rowF v 12) (rowF v 13) (rowF v 14) (rowF v 15) = p at hp ⊢
  pointwise [hp, pay11_read, floor_div_16]
  have hs : ∀ x : Fin 16, FloatOps.sitofp (F := Ideal) FTy.f32
      (BitVec.setWidth 32 (IntOp.cmpi CmpIPredicate.eq (BitVec.ofNat 32 x.val) (BitVec.ofNat 32 (c.val / 16))))
      = ((if x.val = c.val / 16 then 1 else 0 : ℝ) : EReal) := fun x => sitofp_eq _ _ (by omega) (by omega)
  simp only [hs, ← EReal.coe_mul, coe_sum]
  congr 1
  rw [Finset.sum_eq_single ⟨c.val / 16, by omega⟩]
  · rw [Finset.sum_eq_single ⟨c.val / 16, by omega⟩]
    · simp
    · intro b _ hb
      rw [if_neg (fun e => hb (Fin.ext e)), mul_zero]
    · simp
  · intro b _ hb
    rw [if_neg (fun e => hb (Fin.ext e)), mul_zero]
  · simp

/-- The bilateral numerator. -/
def bilateralSum (q : FVec Ideal S16x4096 .f32) (v : FVec Ideal S1x4096 .f32) : FVec Ideal S16x4096 .f32 :=
  k0_pay46 (k0_pay11 (F := Ideal)) (blurred q v)
    (k0_pay45 (k0_pay11 (F := Ideal)) (rowF v 0) (rowF v 1) (rowF v 2) (rowF v 3) (rowF v 4) (rowF v 5) (rowF v 6) (rowF v 7) (rowF v 8) (rowF v 9)
      (rowF v 10) (rowF v 11) (rowF v 12) (rowF v 13) (rowF v 14) (rowF v 15))
    (iota .tc S256x16 32 [0] iota_S256x16_d0_w32) 16#32 0#32

/-- The bilateral numerator sums the softmax against the truncated bilateral kernel. -/
theorem bilateralSum_read (hq : ∀ l n, q (ix2 l n) = (s l n : EReal)) (h : ∀ n, v (ix2 0 n) = (f n : EReal))
    (l : Fin 16) (n : Fin 4096) :
    bilateralSum q v (ix2 l n)
      = ((∑ m, s l m * (gauss (-1 / 12800) m n * ∑ k : Fin 16, phi k.val (f m) * phi k.val (f n)) : ℝ) : EReal) := by
  unfold bilateralSum
  have hb := blurred_read hq h
  have hr := repeated_read h
  generalize k0_pay45 (k0_pay11 (F := Ideal)) _ _ _ _ _ _ _ _ _ _ _ _ _ _ _ _ = b at hr ⊢
  generalize blurred q v = a at hb ⊢
  pointwise [k0_pay46, hb, hr, pay11_read, floor_mod_16]
  have hs : ∀ (c : Fin 256) (x : Fin 16), FloatOps.sitofp (F := Ideal) FTy.f32
      (BitVec.setWidth 32 (IntOp.cmpi CmpIPredicate.eq (BitVec.ofNat 32 (c.val % 16)) (BitVec.ofNat 32 x.val)))
      = ((if c.val % 16 = x.val then 1 else 0 : ℝ) : EReal) := fun c x => sitofp_eq _ _ (by omega) (by omega)
  simp only [hs, ← EReal.coe_mul, coe_sum]
  congr 1
  rw [Finset.sum_eq_single l]
  · rw [if_pos rfl, one_mul]
    have e := sum_rem l.val l.isLt fun c => (∑ m, s ⟨c.val % 16, by omega⟩ m * phi (c.val / 16) (f m) * gauss (-1 / 12800) m n) * phi (c.val / 16) (f n)
    refine (Finset.sum_congr rfl fun c _ => mul_comm _ _).trans (e.trans ?_)
    have h1 : ∀ i : Fin 16, (i.val * 16 + l.val) / 16 = i.val := by intro i; omega
    have h2 : ∀ i : Fin 16, (i.val * 16 + l.val) % 16 = l.val := by intro i; omega
    simp only [h1, h2, Finset.mul_sum, Finset.sum_mul]
    rw [Finset.sum_comm]
    refine Finset.sum_congr rfl fun m _ => Finset.sum_congr rfl fun k _ => ?_
    ring
  · intro b _ hb
    rw [if_neg (fun e => hb (Fin.ext e).symm), zero_mul]
  · simp

end Sum

end Cert.Crf
-- ==== Proof.BilateralNorm.lean ====
/-
  The normalisation of the bilateral filter as the kernel computes it: the features of the slices, blurred by the plane and the
  slices' Gaussians, multiplied by the features of the output voxel and summed over the features.
-/
module

public import proofs.«01_k».proof.Proof.BilateralSum

@[expose] public section

set_option maxRecDepth 16384

noncomputable section

namespace Cert.Crf

open Idealize.ShloMosaic Cert.KernelIdeal Cert.KernelIdeal.Gen

/-- Row `c` of sixteen stacked slabs of sixteen slices is slice `c mod 16` of slab `c div 16`. -/
theorem concat_slabs (F : Fin 16 → FVec Ideal S16x256 .f32)
    (h : Shape.Concatenates ((List.ofFn fun k : Fin 16 => (⟨S16x256, F k⟩ : (s : Shape) × (s.Idx → Ideal .f32))).map (·.1)) S256x256 0)
    (c w : Fin 256) :
    concatenate S256x256 0 (List.ofFn fun k : Fin 16 => (⟨S16x256, F k⟩ : (s : Shape) × (s.Idx → Ideal .f32))) h (ix2 c w)
      = F ⟨c.val / 16, by omega⟩ (ix2 ⟨c.val % 16, by omega⟩ w) := by
  refine concatenate_ofFn_apply 0 F h rfl 16 rfl _ _ rfl _ rfl ?_
  intro b hb
  fin_cases b
  · exact absurd rfl hb
  · rfl

/-- Column `n` of sixteen slabs laid side by side is column `n mod 256` of slab `n div 256`. -/
theorem concat_side (F : Fin 16 → FVec Ideal S16x256 .f32)
    (h : Shape.Concatenates ((List.ofFn fun k : Fin 16 => (⟨S16x256, F k⟩ : (s : Shape) × (s.Idx → Ideal .f32))).map (·.1)) S16x4096 1)
    (l : Fin 16) (n : Fin 4096) :
    concatenate S16x4096 1 (List.ofFn fun k : Fin 16 => (⟨S16x256, F k⟩ : (s : Shape) × (s.Idx → Ideal .f32))) h (ix2 l n)
      = F ⟨n.val / 256, by omega⟩ (ix2 l ⟨n.val % 256, by omega⟩) := by
  refine concatenate_ofFn_apply 1 F h rfl 256 rfl _ _ rfl _ rfl ?_
  intro b hb
  fin_cases b
  · rfl
  · exact absurd rfl hb

/-- The features laid out in slices and blurred by the Gaussians. -/
def blurredFeatures (v : FVec Ideal S1x4096 .f32) : FVec Ideal S256x256 .f32 :=
  k0_pay49 (k0_pay47 (k0_pay5 (F := Ideal)) (featRows v)) (k0_pay48 (F := Ideal)) (constant S256x256 .f32 0x00000000#32)

/-- Row `16 k + z` of the blurred features holds the blur of feature `k` over slice `z`. -/
theorem blurredFeatures_read {v : FVec Ideal S1x4096 .f32} {f : Fin 4096 → ℝ} (h : ∀ n, v (ix2 0 n) = (f n : EReal)) (c w : Fin 256) :
    blurredFeatures v (ix2 c w)
      = ((∑ m, phi (c.val / 16) (f m) * gauss (-1 / 12800) m (vox ⟨c.val % 16, by omega⟩ w) : ℝ) : EReal) := by
  unfold blurredFeatures
  have hp := featRows_read h
  generalize featRows v = p at hp ⊢
  pointwise [k0_pay49, k0_pay47, hp, pay5_read, pay48_read]
  simp only [← EReal.coe_mul, coe_sum]
  congr 1
  rw [sum_slices]
  have e := sum_quot (c.val / 16) (by omega) fun x : Fin 256 => line (-1 / 12800) (c.val % 16) (x.val % 16) *
    ∑ j : Fin 256, phi (x.val / 16) (f ⟨x.val % 16 * 256 + j.val, by omega⟩) * plane (-1 / 12800) j.val w.val
  refine (Finset.sum_congr rfl fun x _ => ?_).trans (e.trans ?_)
  · rw [← mul_assoc]
    congr 2
    exact if_congr eq_comm rfl rfl
  · refine Finset.sum_congr rfl fun z _ => ?_
    rw [Finset.mul_sum]
    refine Finset.sum_congr rfl fun j _ => ?_
    have e1 : (c.val / 16 * 16 + z.val) % 16 = z.val := by omega
    have e2 : (c.val / 16 * 16 + z.val) / 16 = c.val / 16 := by omega
    have e4 : (c.val % 16 * 256 + w.val) / 256 = c.val % 16 := by omega
    have e5 : (c.val % 16 * 256 + w.val) % 256 = w.val := by omega
    have g := gauss_split (-1 / 12800) z j (vox ⟨c.val % 16, by omega⟩ w)
    simp only [vox, e4, e5] at g
    simp only [e1, e2, vox, g]
    rw [line_symm _ (c.val % 16) z.val]
    ring

/-- The normalisation by slices: the features of the slices against the blurred features, summed over the features. -/
def slabNorm (b : FVec Ideal S256x256 .f32) (v : Vec Ideal S16x256 .f32) : FVec Ideal S16x256 .f32 :=
  k0_pay66 b (k0_pay51 v) (k0_pay52 v) (k0_pay53 v) (k0_pay54 v) (k0_pay55 v) (k0_pay56 v) (k0_pay57 v) (k0_pay58 v)
    (k0_pay59 v) (k0_pay60 v) (k0_pay61 v) (k0_pay62 v) (k0_pay63 v) (k0_pay64 v) (k0_pay65 (F := Ideal))

/-- A slab times the doubled intensities times a constant. -/
def stepSlab (p t : FVec Ideal S16x256 .f32) (c : Ideal .f32) : FVec Ideal S16x256 .f32 := mulf (mulf p t) (broadcast S16x256 c)

/-- A slab of feature `k` becomes a slab of feature `k + 1`. -/
theorem stepSlab_read {p t : FVec Ideal S16x256 .f32} {c : Ideal .f32} (k : ℕ) {f : Fin 16 → Fin 256 → ℝ}
    (hp : ∀ z w, p (ix2 z w) = ((phi k (f z w) : ℝ) : EReal)) (ht : ∀ z w, t (ix2 z w) = ((2 * f z w : ℝ) : EReal))
    (hc : c = ((rs (k + 1) : ℝ) : EReal)) (z : Fin 16) (w : Fin 256) :
    stepSlab p t c (ix2 z w) = ((phi (k + 1) (f z w) : ℝ) : EReal) := by
  pointwise [stepSlab]
  exact phi_step k _ (hp z w) (ht z w) hc

/-- The sixteen slabs of features. -/
def slabF (v : Vec Ideal S16x256 .f32) : Fin 16 → FVec Ideal S16x256 .f32 :=
  let t := k0_pay52 (F := Ideal) v
  let p12 := mulf (k0_pay64 v) (k0_pay65 (F := Ideal))
  let p13 := stepSlab p12 t (Named.named κ "s13" 0x3E8E00D5#32)
  let p14 := stepSlab p13 t (Named.named κ "s14" 0x3E88D677#32)
  let p15 := stepSlab p14 t (Named.named κ "s15" 0x3E8432A5#32)
  ![k0_pay51 v, k0_pay53 v, k0_pay54 v, k0_pay55 v, k0_pay56 v, k0_pay57 v, k0_pay58 v,
    k0_pay59 v, k0_pay60 v, k0_pay61 v, k0_pay62 v, k0_pay63 v, p12, p13, p14, p15]

/-- Slab `k` holds feature `k`. -/
theorem slabF_read {v : Vec Ideal S16x256 .f32} {f : Fin 16 → Fin 256 → ℝ} (h : ∀ z w, v (ix2 z w) = (f z w : EReal))
    (k : Fin 16) (z : Fin 16) (w : Fin 256) : slabF v k (ix2 z w) = ((phi k.val (f z w) : ℝ) : EReal) := by
  have ht := slab_two h
  have h12 : ∀ z w, mulf (k0_pay64 v) (k0_pay65 (F := Ideal)) (ix2 z w) = ((phi 12 (f z w) : ℝ) : EReal) := by
    intro z w
    pointwise [k0_pay64, k0_pay65]
    exact phi_step 11 _ (slab_11 h z w) (ht z w) (named_s12 _)
  have h13 := stepSlab_read 12 h12 ht (named_s13 0x3E8E00D5#32)
  have h14 := stepSlab_read 13 h13 ht (named_s14 0x3E88D677#32)
  have h15 := stepSlab_read 14 h14 ht (named_s15 0x3E8432A5#32)
  fin_cases k
  exacts [slab_0 h z w, slab_1 h z w, slab_2 h z w, slab_3 h z w, slab_4 h z w, slab_5 h z w, slab_6 h z w, slab_7 h z w,
    slab_8 h z w, slab_9 h z w, slab_10 h z w, slab_11 h z w, h12 z w, h13 z w, h14 z w, h15 z w]

/-- What the normalisation by slices holds, given what the blurred features hold. -/
theorem slabNorm_read {b : FVec Ideal S256x256 .f32} {B : Fin 256 → Fin 256 → ℝ} (hb : ∀ c w, b (ix2 c w) = (B c w : EReal))
    {v : Vec Ideal S16x256 .f32} {f : Fin 16 → Fin 256 → ℝ} (h : ∀ z w, v (ix2 z w) = (f z w : EReal))
    (z : Fin 16) (w : Fin 256) :
    slabNorm b v (ix2 z w) = ((∑ k : Fin 16, B ⟨k.val * 16 + z.val, by omega⟩ w * phi k.val (f z w) : ℝ) : EReal) := by
  unfold slabNorm k0_pay66
  dsimp only
  generalize hc : concatenate S256x256 0 _ _ = t
  have ht : ∀ c w, t (ix2 c w) = ((phi (c.val / 16) (f ⟨c.val % 16, by omega⟩ w) : ℝ) : EReal) := by
    subst hc
    intro c w
    exact (concat_slabs (slabF v) _ c w).trans (slabF_read h _ _ _)
  pointwise [ht, hb]
  have hs : ∀ c : Fin 256, FloatOps.sitofp (F := Ideal) FTy.f32
      (BitVec.setWidth 32 (IntOp.cmpi CmpIPredicate.eq (IntOp.andi (BitVec.ofNat 32 c.val) 15#32) (BitVec.ofNat 32 z.val)))
      = ((if c.val % 16 = z.val then 1 else 0 : ℝ) : EReal) := fun c => by
    rw [and15 _ (by omega)]
    exact sitofp_eq _ _ (by omega) (by omega)
  simp only [hs, ← EReal.coe_mul, coe_sum]
  congr 1
  refine (sum_rem z.val z.isLt fun c => B c w * phi (c.val / 16) (f ⟨c.val % 16, by omega⟩ w)).trans ?_
  refine Finset.sum_congr rfl fun k _ => ?_
  have e1 : (k.val * 16 + z.val) / 16 = k.val := by omega
  have e2 : (k.val * 16 + z.val) % 16 = z.val := by omega
  simp only [e1, e2]

/-- A row of sixteen may be cut out of sixteen. -/
theorem slices_row (k : Fin 16) : S16x256.Slices ![k.val, 0] S1x256 := by
  revert k
  decide

/-- Slice `k` of a slab, repeated over the labels. -/
def spread (s : FVec Ideal S16x256 .f32) (k : Fin 16) : FVec Ideal S16x256 .f32 :=
  broadcastTo S16x256 (shapeCast S1x256 (extractStridedSlice S1x256 ![k.val, 0] s (slices_row k)) shapeCasts_S1x256_S1x256)
    broadcasts_S1x256_S16x256

/-- What a repeated slice holds. -/
theorem spread_read (s : FVec Ideal S16x256 .f32) (k l : Fin 16) (w : Fin 256) : spread s k (ix2 l w) = s (ix2 k w) := by
  unfold spread
  pointwise

/-- The slices of a slab laid side by side, the same for every label. -/
def sideBySide (s : FVec Ideal S16x256 .f32) : FVec Ideal S16x4096 .f32 :=
  concatenate S16x4096 1 (List.ofFn fun k : Fin 16 => (⟨S16x256, spread s k⟩ : (s : Shape) × (s.Idx → Ideal .f32)))
    concatenates_S16x256_S16x256_S16x256_S16x256_S16x256_S16x256_S16x256_S16x256_S16x256_S16x256_S16x256_S16x256_S16x256_S16x256_S16x256_S16x256_S16x4096_d1

/-- Voxel `n` of the slices laid side by side. -/
theorem sideBySide_read (s : FVec Ideal S16x256 .f32) (l : Fin 16) (n : Fin 4096) :
    sideBySide s (ix2 l n) = s (ix2 ⟨n.val / 256, by omega⟩ ⟨n.val % 256, by omega⟩) :=
  (concat_side (spread s) _ l n).trans (spread_read s _ l _)

/-- The bilateral normalisation. -/
def bilateralNorm (v : FVec Ideal S1x4096 .f32) (u : Vec Ideal S16x256 .f32) : FVec Ideal S16x4096 .f32 :=
  sideBySide (slabNorm (blurredFeatures v) u)

/-- The bilateral normalisation sums the truncated bilateral kernel. -/
theorem bilateralNorm_read {v : FVec Ideal S1x4096 .f32} {u : Vec Ideal S16x256 .f32} {f : Fin 4096 → ℝ}
    (h : ∀ n, v (ix2 0 n) = (f n : EReal)) (hu : ∀ z w, u (ix2 z w) = (f (vox z w) : EReal)) (l : Fin 16) (n : Fin 4096) :
    bilateralNorm v u (ix2 l n)
      = ((∑ m, gauss (-1 / 12800) m n * ∑ k : Fin 16, phi k.val (f m) * phi k.val (f n) : ℝ) : EReal) := by
  unfold bilateralNorm
  rw [sideBySide_read, slabNorm_read (blurredFeatures_read h) hu]
  congr 1
  have e : vox ⟨n.val / 256, by omega⟩ ⟨n.val % 256, by omega⟩ = n := Fin.ext (by simp only [vox]; omega)
  have e1 : ∀ k : Fin 16, (k.val * 16 + n.val / 256) / 16 = k.val := by intro k; omega
  have e2 : ∀ k : Fin 16, (k.val * 16 + n.val / 256) % 16 = n.val / 256 := by intro k; omega
  simp only [e1, e2, e, Finset.sum_mul, Finset.mul_sum]
  rw [Finset.sum_comm]
  refine Finset.sum_congr rfl fun m _ => Finset.sum_congr rfl fun k _ => ?_
  ring

end Cert.Crf
-- ==== Proof.Spatial.lean ====
/-
  The spatial branch of the kernel: the messages of the spatial Gaussian and its column sums.
-/
module

public import proofs.«01_k».proof.Proof.Tables

@[expose] public section

set_option maxRecDepth 16384
set_option maxHeartbeats 1000000

noncomputable section

namespace Cert.Crf

open Idealize.ShloMosaic Cert.KernelIdeal Cert.KernelIdeal.Gen

/-- The kernel's spatial messages of a label field `q`: its product with the matrix of spatial Gaussians. -/
theorem pay80_read {v : FVec Ideal S16x4096 .f32} {g : FVec Ideal S256x256 .f32} {q : Fin 16 → Fin 4096 → ℝ}
    (h : ∀ l n, v (ix2 l n) = (q l n : EReal)) (hg : ∀ r c : Fin 256, g (ix2 r c) = ((plane (-1 / 18) r.val c.val : ℝ) : EReal))
    (l : Fin 16) (n : Fin 4096) :
    k0_pay80 (F := Ideal) v g (ix2 l n) = ((∑ m, q l m * Ks m n : ℝ) : EReal) := by
  pointwise (disch := omega) [k0_pay80, shr4, and15, sitofp_sub, sitofp_eq, named_c, h, hg]
  simp only [← EReal.coe_mul, Ideal.exp_coe, coe_sum]
  congr 1
  have e1 : (l.val * 16 + n.val / 256) / 16 = l.val := by omega
  have e2 : (l.val * 16 + n.val / 256) % 16 = n.val / 256 := by omega
  rw [e1, e2]
  simp only [mul_left_comm (∑ k : Fin 256, _)]
  rw [sum_quot l.val l.isLt, sum_slices]
  refine Finset.sum_congr rfl fun z _ => ?_
  have e3 : (l.val * 16 + z.val) / 16 = l.val := by omega
  have e4 : (l.val * 16 + z.val) % 16 = z.val := by omega
  simp only [e3, e4, Fin.eta, Finset.sum_mul]
  refine Finset.sum_congr rfl fun w _ => ?_
  have := gauss_split (-1 / 18) z w n
  rw [vox] at this
  rw [Ks, this, line]
  ring

/-- The constant 3. -/
theorem bits_3 : Ideal.ofBits .f32 0x40400000#32 = ((3 : ℝ) : EReal) := by
  simp [Ideal.ofBits, Ideal.ieee, -EReal.coe_mul]; norm_num

/-- The constant 4. -/
theorem bits_4 : Ideal.ofBits .f32 0x40800000#32 = ((4 : ℝ) : EReal) := by
  simp [Ideal.ofBits, Ideal.ieee, -EReal.coe_mul]; norm_num

/-- The constant 5. -/
theorem bits_5 : Ideal.ofBits .f32 0x40A00000#32 = ((5 : ℝ) : EReal) := by
  simp [Ideal.ofBits, Ideal.ieee, -EReal.coe_mul]; norm_num

/-- The constant 6. -/
theorem bits_6 : Ideal.ofBits .f32 0x40C00000#32 = ((6 : ℝ) : EReal) := by
  simp [Ideal.ofBits, Ideal.ieee, -EReal.coe_mul]; norm_num

/-- The constant 7. -/
theorem bits_7 : Ideal.ofBits .f32 0x40E00000#32 = ((7 : ℝ) : EReal) := by
  simp [Ideal.ofBits, Ideal.ieee, -EReal.coe_mul]; norm_num

/-- The constant 8. -/
theorem bits_8 : Ideal.ofBits .f32 0x41000000#32 = ((8 : ℝ) : EReal) := by
  simp [Ideal.ofBits, Ideal.ieee, -EReal.coe_mul]; norm_num

/-- The constant 9. -/
theorem bits_9 : Ideal.ofBits .f32 0x41100000#32 = ((9 : ℝ) : EReal) := by
  simp [Ideal.ofBits, Ideal.ieee, -EReal.coe_mul]; norm_num

/-- The constant 10. -/
theorem bits_10 : Ideal.ofBits .f32 0x41200000#32 = ((10 : ℝ) : EReal) := by
  simp [Ideal.ofBits, Ideal.ieee, -EReal.coe_mul]; norm_num

/-- The constant 11. -/
theorem bits_11 : Ideal.ofBits .f32 0x41300000#32 = ((11 : ℝ) : EReal) := by
  simp [Ideal.ofBits, Ideal.ieee, -EReal.coe_mul]; norm_num

/-- The constant 12. -/
theorem bits_12 : Ideal.ofBits .f32 0x41400000#32 = ((12 : ℝ) : EReal) := by
  simp [Ideal.ofBits, Ideal.ieee, -EReal.coe_mul]; norm_num

/-- The constant 13. -/
theorem bits_13 : Ideal.ofBits .f32 0x41500000#32 = ((13 : ℝ) : EReal) := by
  simp [Ideal.ofBits, Ideal.ieee, -EReal.coe_mul]; norm_num

/-- The constant 14. -/
theorem bits_14 : Ideal.ofBits .f32 0x41600000#32 = ((14 : ℝ) : EReal) := by
  simp [Ideal.ofBits, Ideal.ieee, -EReal.coe_mul]; norm_num

/-- The constant 15. -/
theorem bits_15 : Ideal.ofBits .f32 0x41700000#32 = ((15 : ℝ) : EReal) := by
  simp [Ideal.ofBits, Ideal.ieee, -EReal.coe_mul]; norm_num

/-- The sums over the slices, rows and columns of the spatial Gaussians, multiplied: what the kernel divides the spatial messages by. -/
def spatialSums : FVec Ideal S1x4096 .f32 :=
  k0_pay112 (k0_pay81 (F := Ideal)) (k0_pay83 (F := Ideal) k0_pay82) (k0_pay84 (F := Ideal) (iota .tc S1x4096 32 [1] iota_S1x4096_d1_w32)) (k0_pay109 (k0_pay84 (F := Ideal) (iota .tc S1x4096 32 [1] iota_S1x4096_d1_w32)) (k0_pay108 (k0_pay84 (F := Ideal) (iota .tc S1x4096 32 [1] iota_S1x4096_d1_w32)) (k0_pay104 (k0_pay84 (F := Ideal) (iota .tc S1x4096 32 [1] iota_S1x4096_d1_w32)) (k0_pay100 (k0_pay84 (F := Ideal) (iota .tc S1x4096 32 [1] iota_S1x4096_d1_w32)) (k0_pay99 (k0_pay84 (F := Ideal) (iota .tc S1x4096 32 [1] iota_S1x4096_d1_w32)) (k0_pay95 (k0_pay84 (F := Ideal) (iota .tc S1x4096 32 [1] iota_S1x4096_d1_w32)) (k0_pay91 (k0_pay84 (F := Ideal) (iota .tc S1x4096 32 [1] iota_S1x4096_d1_w32)) (k0_pay90 (k0_pay84 (F := Ideal) (iota .tc S1x4096 32 [1] iota_S1x4096_d1_w32)) (k0_pay86 (F := Ideal) (iota .tc S1x4096 32 [1] iota_S1x4096_d1_w32)))) (Scalar.ofBits .f32 0x40800000#32)))) (Scalar.ofBits .f32 0x41100000#32)))) (k0_pay110 (k0_pay81 (F := Ideal)) (k0_pay106 (k0_pay81 (F := Ideal)) (k0_pay105 (k0_pay81 (F := Ideal)) (k0_pay101 (k0_pay81 (F := Ideal)) (k0_pay97 (k0_pay81 (F := Ideal)) (k0_pay96 (k0_pay81 (F := Ideal)) (k0_pay92 (k0_pay81 (F := Ideal)) (k0_pay88 (k0_pay81 (F := Ideal)) (k0_pay87 (k0_pay81 (F := Ideal)))) (Scalar.ofBits .f32 0x40400000#32)))) (Scalar.ofBits .f32 0x41000000#32)))) (Scalar.ofBits .f32 0x41500000#32)) (k0_pay111 (k0_pay83 (F := Ideal) k0_pay82) (k0_pay107 (k0_pay83 (F := Ideal) k0_pay82) (k0_pay103 (k0_pay83 (F := Ideal) k0_pay82) (k0_pay102 (k0_pay83 (F := Ideal) k0_pay82) (k0_pay98 (k0_pay83 (F := Ideal) k0_pay82) (k0_pay94 (k0_pay83 (F := Ideal) k0_pay82) (k0_pay93 (k0_pay83 (F := Ideal) k0_pay82) (k0_pay89 (k0_pay83 (F := Ideal) k0_pay82) (k0_pay85 (F := Ideal) k0_pay82) (Scalar.ofBits .f32 0x3F800000#32)))) (Scalar.ofBits .f32 0x40C00000#32)))) (Scalar.ofBits .f32 0x41300000#32))) (Scalar.ofBits .f32 0x41600000#32)

/-- The sum over the voxels of a product of three functions, one of each coordinate. -/
theorem sum_three (p q r : ℕ → ℝ) :
    ∑ m : Fin 4096, p (m.val / 256) * q (m.val / 16 % 16) * r (m.val % 16)
      = (∑ i : Fin 16, p i.val) * (∑ i : Fin 16, q i.val) * (∑ i : Fin 16, r i.val) := by
  rw [sum_slices, Finset.sum_mul, Finset.sum_mul]
  refine Finset.sum_congr rfl fun z _ => ?_
  rw [sum_256, mul_assoc, Finset.sum_mul, Finset.mul_sum]
  refine Finset.sum_congr rfl fun i _ => ?_
  rw [Finset.mul_sum, Finset.mul_sum]
  refine Finset.sum_congr rfl fun j _ => ?_
  have e1 : (z.val * 256 + (i.val * 16 + j.val)) / 256 = z.val := by omega
  have e2 : (z.val * 256 + (i.val * 16 + j.val)) / 16 % 16 = i.val := by omega
  have e3 : (z.val * 256 + (i.val * 16 + j.val)) % 16 = j.val := by omega
  simp only [e1, e2, e3, mul_assoc]

/-- The multiplied sums are the column sums of the matrix of spatial Gaussians. -/
theorem spatialSums_read (n : Fin 4096) : spatialSums (ix2 0 n) = ((∑ m, Ks m n : ℝ) : EReal) := by
  have hs : ∑ m, Ks m n = (∑ i : Fin 16, line (-1 / 18) (n.val / 256) i.val)
      * (∑ i : Fin 16, line (-1 / 18) (n.val / 16 % 16) i.val) * (∑ i : Fin 16, line (-1 / 18) (n.val % 16) i.val) := by
    rw [← sum_three (line (-1 / 18) (n.val / 256)) (line (-1 / 18) (n.val / 16 % 16)) (line (-1 / 18) (n.val % 16))]
    refine Finset.sum_congr rfl fun m _ => ?_
    rw [Ks, gauss_symm, gauss_three]
  rw [hs]
  pointwise (disch := omega) [spatialSums, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, shr8, and15, shr4, sitofp_nat, named_c,
    bits_two, bits_3, bits_4, bits_5, bits_6, bits_7, bits_8, bits_9, bits_10, bits_11, bits_12, bits_13, bits_14, bits_15]
  rw [← EReal.coe_one]
  simp only [← EReal.coe_sub, ← EReal.coe_mul, Ideal.exp_coe, ← EReal.coe_add]
  congr 1
  simp only [line, Fin.sum_univ_succ, Finset.univ_eq_empty, Finset.sum_empty]
  norm_num [← mul_assoc, add_assoc]

end Cert.Crf

end
-- ==== Proof.Update.lean ====
/-
  What the kernel's one block computes: the softmax of the unary terms plus the messages of the spatial and the bilateral
  filter.
-/
module

public import proofs.«01_k».proof.Proof.BilateralNorm
public import proofs.«01_k».proof.Proof.Spatial

@[expose] public section

set_option maxRecDepth 16384

noncomputable section

namespace Cert.Crf

open Idealize.ShloMosaic Cert.KernelIdeal Cert.KernelIdeal.Gen

/-- The product of equal features of two intensities is one term of the exponential series. -/
theorem phi_mul (k : ℕ) (x y : ℝ) :
    phi k x * phi k y = Real.exp (-2 * (x ^ 2 + y ^ 2)) * ((4 * x * y) ^ k / (k.factorial : ℝ)) := by
  induction k with
  | zero =>
    simp only [phi, ← Real.exp_add, pow_zero, Nat.factorial_zero, Nat.cast_one, div_one, mul_one]
    congr 1
    ring
  | succ k ih =>
    have hr : rs (k + 1) * rs (k + 1) = ((k + 1 : ℕ) : ℝ)⁻¹ := by
      rw [rs, ← mul_inv, Real.mul_self_sqrt (Nat.cast_nonneg _)]
    calc phi (k + 1) x * phi (k + 1) y = (phi k x * phi k y) * (4 * x * y) * (rs (k + 1) * rs (k + 1)) := by
          simp only [phi]; ring
      _ = _ := by
          rw [ih, hr, Nat.factorial_succ, Nat.cast_mul, pow_succ]
          field_simp
          ring

/-- The sum of the products of the features is the truncated bilateral factor. -/
theorem sum_phi (x y : ℝ) :
    ∑ k : Fin 16, phi k.val x * phi k.val y = Real.exp (-2 * (x ^ 2 + y ^ 2)) * taylor (4 * x * y) := by
  simp only [phi_mul, ← Finset.mul_sum, taylor]
  rw [Finset.sum_range]

/-- The truncated bilateral Gaussian by its sixteen features. -/
theorem Kt_eq (f : Fin 4096 → ℝ) (m n : Fin 4096) :
    gauss (-1 / 12800) m n * ∑ k : Fin 16, phi k.val (f m) * phi k.val (f n) = Kt f m n := by
  rw [sum_phi, Kt]

/-- The sixteen terms of the series are positive together at a number that isn't negative. -/
theorem taylor_pos {t : ℝ} (h : 0 ≤ t) : 0 < taylor t := by
  unfold taylor
  rw [Finset.sum_range_succ']
  have : 0 ≤ ∑ k ∈ Finset.range 15, t ^ (k + 1) / ((k + 1).factorial : ℝ) :=
    Finset.sum_nonneg fun k _ => by positivity
  simpa using by linarith

/-- A Gaussian is positive. -/
theorem gauss_pos (a : ℝ) (m n : Fin 4096) : 0 < gauss a m n := Real.exp_pos _

/-- The truncated bilateral Gaussian is positive where no intensity is negative. -/
theorem Kt_pos {f : Fin 4096 → ℝ} (hf : ∀ n, 0 ≤ f n) (m n : Fin 4096) : 0 < Kt f m n :=
  mul_pos (gauss_pos _ _ _) (mul_pos (Real.exp_pos _) (taylor_pos (by have := hf m; have := hf n; positivity)))

/-- The sum of a column of the Gaussian is positive. -/
theorem sum_gauss_pos (a : ℝ) (n : Fin 4096) : 0 < ∑ m, gauss a m n :=
  Finset.sum_pos (fun _ _ => gauss_pos _ _ _) Finset.univ_nonempty

/-- The sum of a column of the truncated bilateral Gaussian is positive. -/
theorem sum_Kt_pos {f : Fin 4096 → ℝ} (hf : ∀ n, 0 ≤ f n) (n : Fin 4096) : 0 < ∑ m, Kt f m n :=
  Finset.sum_pos (fun _ _ => Kt_pos hf _ _) Finset.univ_nonempty

section Out

variable {x0 : Vec Ideal S16x4096 .f32} {x1 : Vec Ideal S1x4096 .f32} {x2 : Vec Ideal S16x256 .f32}
  {x3 x4 x5 : Vec Ideal S16x16 .f32} {u : Fin 16 → Fin 4096 → ℝ} {f : Fin 4096 → ℝ} {sw bw cm : Fin 16 → Fin 16 → ℝ}

/-- The block the kernel stores, of its six inputs. -/
def block (x0 : Vec Ideal S16x4096 .f32) (x1 : Vec Ideal S1x4096 .f32) (x2 : Vec Ideal S16x256 .f32)
    (x3 x4 x5 : Vec Ideal S16x16 .f32) : FVec Ideal S16x4096 .f32 :=
  k0_pay1 (k0_pay2 x0) (bilateralSum (k0_pay4 x0) (k0_pay3 x1)) (bilateralNorm (k0_pay3 x1) x2)
    (k0_pay80 (k0_pay4 x0) (k0_pay9 (iota .tc S256x256 32 [1] iota_S256x256_d1_w32) (k0_pay6 (F := Ideal)) k0_pay7 k0_pay8))
    spatialSums (k0_pay113 x5 x4) x5 x3

/-- The messages as the kernel groups them. -/
theorem message_grouped (Kb : Fin 4096 → Fin 4096 → ℝ) (l : Fin 16) (n : Fin 4096) :
    (∑ a, (∑ b, cm l b * sw b a) * ∑ m, softmax (fun k => u k m) a * Ks m n) / (∑ m, Ks m n)
      + (∑ a, (∑ b, cm l b * bw b a) * ∑ m, softmax (fun k => u k m) a * Kb m n) / (∑ m, Kb m n)
      = message u sw bw cm Ks Kb l n := by
  have key : ∀ (w : Fin 16 → Fin 16 → ℝ) (K : Fin 4096 → Fin 4096 → ℝ),
      (∑ a, (∑ b, cm l b * w b a) * ∑ m, softmax (fun k => u k m) a * K m n) / (∑ m, K m n)
        = ∑ b, cm l b * ∑ a, w b a * filter K (fun m => softmax (fun k => u k m) a) n := by
    intro w K
    simp only [filter, Finset.sum_div (Finset.univ : Finset (Fin 16)), Finset.mul_sum (s := (Finset.univ : Finset (Fin 16))), Finset.sum_mul (s := (Finset.univ : Finset (Fin 16)))]
    rw [Finset.sum_comm]
    refine Finset.sum_congr rfl fun b _ => Finset.sum_congr rfl fun a _ => ?_
    ring
  rw [key, key, message, ← Finset.sum_add_distrib]
  refine Finset.sum_congr rfl fun b _ => ?_
  rw [mul_add]

/-- The block holds the update with the truncated bilateral kernel. -/
theorem block_read (h0 : ∀ l n, x0 (ix2 l n) = (u l n : EReal)) (h1 : ∀ n, x1 (ix2 0 n) = (f n : EReal))
    (h2 : ∀ z w, x2 (ix2 z w) = (f (vox z w) : EReal)) (h3 : ∀ r c, x3 (ix2 r c) = (sw r c : EReal))
    (h4 : ∀ r c, x4 (ix2 r c) = (bw r c : EReal)) (h5 : ∀ r c, x5 (ix2 r c) = (cm r c : EReal)) (hf : ∀ n, 0 ≤ f n)
    (l : Fin 16) (n : Fin 4096) : block x0 x1 x2 x3 x4 x5 (ix2 l n) = ((crf u sw bw cm Ks (Kt f) l n : ℝ) : EReal) := by
  have hv : ∀ n, k0_pay3 x1 (ix2 0 n) = (f n : EReal) := by
    intro n
    pointwise [k0_pay3, h1]
  have hq := pay4_read h0
  have hyb := bilateralSum_read hq hv
  have hnb := bilateralNorm_read hv h2
  have hys := pay80_read hq pay9_read
  have hns := spatialSums_read
  simp only [Kt_eq] at hyb hnb
  unfold block
  generalize bilateralSum (k0_pay4 x0) (k0_pay3 x1) = yb at hyb ⊢
  generalize bilateralNorm (k0_pay3 x1) x2 = nb at hnb ⊢
  generalize k0_pay80 (k0_pay4 x0) _ = ys at hys ⊢
  generalize spatialSums = ns at hns ⊢
  pointwise [k0_pay1, k0_pay2, k0_pay113, h0, h3, h4, h5, hyb, hnb, hys, hns]
  have hd : ∀ n, (∑ m, Ks m n) ≠ 0 := fun n => (sum_gauss_pos _ n).ne'
  have hd' : ∀ n, (∑ m, Kt f m n) ≠ 0 := fun n => (sum_Kt_pos hf n).ne'
  simp only [← EReal.coe_mul, coe_sum, coe_div (hd _), coe_div (hd' _), ← EReal.coe_add, message_grouped]
  exact softmax_coe (fun k => _) (fun k => u k n + message u sw bw cm Ks (Kt f) k n) (fun k => rfl) l

end Out

end Cert.Crf
-- ==== Proof.KernelRun.lean ====
/-
  The run of the kernel over the extended reals: the result array ends holding the block computed from the arguments.
-/
module

public import proofs.«01_k».proof.Proof.Update
public import proofs.«01_k».proof.Proof.Gen.KernelIdeal.Value
public import Idealize.ShloMosaic.Lib.Pipeline.Value
public import Idealize.ShloMosaic.Lib.Quiescent
public import Idealize.ShloMosaic.Lib.Pipeline.ValueKit.Geometry

@[expose] public section

set_option maxRecDepth 16384

noncomputable section

namespace Cert.Crf

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The result of the arguments: the unary terms flattened to labels by voxels, the image flattened to one row and to slices. -/
def kernelOut (U : Vec Ideal S1x16x16x16x16 .f32) (I : Vec Ideal S1x1x16x16x16 .f32) (sw bw cm : Vec Ideal S16x16 .f32) :
    FVec Ideal S16x4096 .f32 :=
  block (shapeCast S16x4096 (shapeCast S16x16x16x16 U shapeCasts_S1x16x16x16x16_S16x16x16x16) shapeCasts_S16x16x16x16_S16x4096)
    (shapeCast S1x4096 I shapeCasts_S1x1x16x16x16_S1x4096) (shapeCast S16x256 I shapeCasts_S1x1x16x16x16_S16x256) sw bw cm

/-- The staged unary terms. -/
theorem V_main_v1 (c : Dev nD) : V m c main_v1
    = shapeCast S16x4096 (shapeCast S16x16x16x16 (m ((c : Thread nD τ).loc main_arg0)) shapeCasts_S1x16x16x16x16_S16x16x16x16) shapeCasts_S16x16x16x16_S16x4096 := by
  unfold_abbrev_sides
  after_results
  rfl

/-- The staged row of the image. -/
theorem V_main_v2 (c : Dev nD) : V m c main_v2
    = shapeCast S1x4096 (m ((c : Thread nD τ).loc main_arg1)) shapeCasts_S1x1x16x16x16_S1x4096 := by
  unfold_abbrev_sides
  after_results
  rfl

/-- The staged slices of the image. -/
theorem V_main_v3 (c : Dev nD) : V m c main_v3
    = shapeCast S16x256 (m ((c : Thread nD τ).loc main_arg1)) shapeCasts_S1x1x16x16x16_S16x256 := by
  unfold_abbrev_sides
  after_results
  rfl

/-- The offset of a load of a whole block is zero in both dimensions. -/
theorem hz : (![0, 0] : Fin 2 → Nat) = fun _ => 0 := funext fun a => by fin_cases a <;> rfl

/-- The stored block is `block` of the six inputs. -/
theorem out0_6_eq (x0 : Vec Ideal S16x4096 .f32) (x1 : Vec Ideal S1x4096 .f32) (x2 : Vec Ideal S16x256 .f32)
    (x3 x4 x5 : Vec Ideal S16x16 .f32) : out0_6 x0 x1 x2 x3 x4 x5 = block x0 x1 x2 x3 x4 x5 := by
  have e0 : View.ld x0 r0_0 = x0 := View.ld_unit_zero (S := S16x4096) hz _ _
  have e1 : View.ld x1 r0_1 = x1 := View.ld_unit_zero (S := S1x4096) hz _ _
  have e2 : View.ld x2 r0_2 = x2 := View.ld_unit_zero (S := S16x256) hz _ _
  have e3 : View.ld x3 r0_3 = x3 := View.ld_unit_zero (S := S16x16) hz _ _
  have e4 : View.ld x4 r0_3 = x4 := View.ld_unit_zero (S := S16x16) hz _ _
  have e5 : View.ld x5 r0_3 = x5 := View.ld_unit_zero (S := S16x16) hz _ _
  unfold_out out0_6
  rw [View.canon_unit_zero hz, e0, e1, e2, e3, e4, e5]
  unfold block
  congr 1

section Args

variable (c : Dev nD)

/-- The unary terms, the image, the weights and the compatibility matrix the kernel is launched with. -/
abbrev argU : Vec Ideal S1x16x16x16x16 .f32 := m ((c : Thread nD τ).loc main_arg0)
/-- The intensities of a device. -/
abbrev argI : Vec Ideal S1x1x16x16x16 .f32 := m ((c : Thread nD τ).loc main_arg1)
/-- The spatial weights of a device. -/
abbrev argS : Vec Ideal S16x16 .f32 := m ((c : Thread nD τ).loc main_arg2)
/-- The bilateral weights of a device. -/
abbrev argB : Vec Ideal S16x16 .f32 := m ((c : Thread nD τ).loc main_arg3)
/-- The compatibility matrix of a device. -/
abbrev argC : Vec Ideal S16x16 .f32 := m ((c : Thread nD τ).loc main_arg4)

/-- The block of window 0 is the whole array. -/
theorem iblk_0 : (iblk m c 0 t0_0 : Vec Ideal S16x4096 .f32) = V m c main_v1 := by
  have e0 : win0_0.index t0_0 0 = 0 := by decide +kernel
  have e1 : win0_0.index t0_0 1 = 0 := by decide +kernel
  funext y
  blk_ext [iblk, e0, e1]

/-- The block of window 1 is the whole array. -/
theorem iblk_1 : (iblk m c 1 t0_0 : Vec Ideal S1x4096 .f32) = V m c main_v2 := by
  have e0 : win0_1.index t0_0 0 = 0 := by decide +kernel
  have e1 : win0_1.index t0_0 1 = 0 := by decide +kernel
  funext y
  blk_ext [iblk, e0, e1]

/-- The block of window 2 is the whole array. -/
theorem iblk_2 : (iblk m c 2 t0_0 : Vec Ideal S16x256 .f32) = V m c main_v3 := by
  have e0 : win0_2.index t0_0 0 = 0 := by decide +kernel
  have e1 : win0_2.index t0_0 1 = 0 := by decide +kernel
  funext y
  blk_ext [iblk, e0, e1]

/-- The block of window 3 is the whole array. -/
theorem iblk_3 : (iblk m c 3 t0_0 : Vec Ideal S16x16 .f32) = V m c main_arg2 := by
  have e0 : win0_3.index t0_0 0 = 0 := by decide +kernel
  have e1 : win0_3.index t0_0 1 = 0 := by decide +kernel
  funext y
  blk_ext [iblk, e0, e1]

/-- The block of window 4 is the whole array. -/
theorem iblk_4 : (iblk m c 4 t0_0 : Vec Ideal S16x16 .f32) = V m c main_arg3 := by
  have e0 : win0_4.index t0_0 0 = 0 := by decide +kernel
  have e1 : win0_4.index t0_0 1 = 0 := by decide +kernel
  funext y
  blk_ext [iblk, e0, e1]

/-- The block of window 5 is the whole array. -/
theorem iblk_5 : (iblk m c 5 t0_0 : Vec Ideal S16x16 .f32) = V m c main_arg4 := by
  have e0 : win0_5.index t0_0 0 = 0 := by decide +kernel
  have e1 : win0_5.index t0_0 1 = 0 := by decide +kernel
  funext y
  blk_ext [iblk, e0, e1]

/-- The result array at the end. -/
theorem final_o : (dats m 0 c).arrAt 6 cfg0.N = kernelOut (argU m c) (argI m c) (argS m c) (argB m c) (argC m c) := by
  refine (dats m 0 c).arrAt_eq_of_after_last 6 t0_0 (by decide +kernel) _ fun j => ?_
  rw [after0_6, out0_6_eq]
  blk_simp
  rw [iblk_0, iblk_1, iblk_2, iblk_3, iblk_4, iblk_5, V_main_v1, V_main_v2, V_main_v3, V_main_arg2, V_main_arg3, V_main_arg4]
  rfl

end Args

/-- The run: the result array holds the block of the arguments, and the arguments are unchanged. -/
theorem run : θ_run defs (onTc (τ := τ) (main (F := Ideal))) ⟨m, fun _ => 0, ρ⟩ fun r => ∀ c : Dev nD,
      r.2.mem ((c : Thread nD τ).loc main_v4) = kernelOut (argU m c) (argI m c) (argS m c) (argB m c) (argC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_o m c), (h c).2⟩) (Cert.KernelIdeal.Value.run_blocks m ρ)

end Cert.Crf
-- ==== Proof.Precondition.lean ====
module

public import proofs.«01_k».proof.Defs
public import proofs.«01_k».proof.Proof.Gen.Pre_finite_image
public import proofs.«01_k».proof.Proof.KernelRun

/-! What `finite_image` says of the arguments: every element is a real number, and no intensity is negative. -/

@[expose] public section

set_option maxRecDepth 16384

noncomputable section

namespace Cert.Crf

open Idealize.ShloMosaic Idealize.ShloMosaic.TcCoe Idealize.SL.Sem Cert.KernelIdeal Cert.KernelIdeal.Gen

/-- The word `0x7F800000` is the top element. -/
theorem bits_top : Ideal.ofBits .f32 0x7F800000#32 = (⊤ : EReal) := by
  simp [Ideal.ofBits, Ideal.ieee]

/-- An extended real that is not an infinity is its own real part. -/
theorem real_of_bounds {x : EReal} (hb : x ≠ ⊥) (ht : x ≠ ⊤) : x = ((x.toReal : ℝ) : EReal) :=
  (EReal.coe_toReal ht hb).symm

/-- An extended real whose absolute value is below the top is a real number. -/
theorem real_of_abs_lt {x : EReal} (h : (FloatOps.absf (F := Ideal) (φ := .f32) x : EReal) < ⊤) : x = ((x.toReal : ℝ) : EReal) := by
  induction x with
  | bot => simp [FloatOps.absf] at h
  | top => simp [FloatOps.absf] at h
  | coe r => rfl

/-- A bit set to a decision is one exactly where the decision holds. -/
theorem of_bit {p : Prop} [Decidable p] (h : BitVec.ofBool (decide p) = 1#1) : p := by
  by_contra hp
  simp [hp] at h

/-- The conjunction of two decisions is one only where both hold. -/
theorem of_bits {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- What `finite_image` says of one device's arguments. -/
structure Finite (U : Vec Ideal S1x16x16x16x16 .f32) (I : Vec Ideal S1x1x16x16x16 .f32) (sw bw cm : Vec Ideal S16x16 .f32) : Prop where
  u : ∀ i, U i = (((U i : EReal).toReal : ℝ) : EReal)
  f : ∀ i, I i = (((I i : EReal).toReal : ℝ) : EReal)
  nonneg : ∀ i, 0 ≤ (I i : EReal).toReal
  s : ∀ i, sw i = (((sw i : EReal).toReal : ℝ) : EReal)
  b : ∀ i, bw i = (((bw i : EReal).toReal : ℝ) : EReal)
  c : ∀ i, cm i = (((cm i : EReal).toReal : ℝ) : EReal)

/-- The precondition gives it of every device's arguments. -/
theorem finite_of_pre (m : (ℓ : Loc nD τ sig) → Buf (Elt Ideal) ℓ)
    (h : Pre_KernelIdeal_finite_image (hPre_finite_image := Cert.Pre_finite_image.Gen.facts) m) (c : Dev nD) :
    Finite (argU m c) (argI m c) (argS m c) (argB m c) (argC m c) := by
  obtain ⟨hu, hi, hs, hb, hc⟩ := h c
  unfold Cert.Pre_finite_image.fn at hu hi hs hb hc
  dsimp only at hu hi hs hb hc
  have hf (i) := of_bits (by have h := congrFun hi i; pointwise at h; exact h)
  have fin (x : EReal) (h : BitVec.ofBool (decide ((FloatOps.absf (F := Ideal) (φ := .f32) x : EReal) < Ideal.ofBits .f32 0x7F800000#32)) = 1#1) :
      x = ((x.toReal : ℝ) : EReal) := real_of_abs_lt (bits_top ▸ of_bit h)
  refine ⟨fun i => fin _ ?_, fun i => ?_, fun i => EReal.toReal_nonneg (hf i).1, fun i => fin _ ?_, fun i => fin _ ?_, fun i => fin _ ?_⟩
  · have h := congrFun hu i
    pointwise at h
    exact h
  · refine real_of_bounds (fun e => ?_) (fun e => ?_)
    · exact absurd ((hf i).1.trans e.le) (by simp)
    · exact absurd ((e.symm.le.trans_lt (hf i).2).trans_eq bits_top) (lt_irrefl _)
  · have h := congrFun hs i
    pointwise at h
    exact h
  · have h := congrFun hb i
    pointwise at h
    exact h
  · have h := congrFun hc i
    pointwise at h
    exact h

end Cert.Crf

end
-- ==== Proof.Reference.lean ====
/-
  What the reference computes over the extended reals, for finite arguments.
-/
module

public import proofs.«01_k».proof.Proof.Model
public import proofs.«01_k».proof.Proof.Words
public import proofs.«01_k».proof.Proof.Spatial
public import proofs.«01_k».proof.Proof.Update
public import proofs.«01_k».proof.Proof.Gen.ReferenceIdeal.Run

@[expose] public section

set_option maxRecDepth 16384

noncomputable section

namespace Cert.Crf.Ref

open Idealize.ShloMosaic Idealize.ShloMosaic.TcCoe Cert.ReferenceIdeal Cert.ReferenceIdeal.Gen Cert.ReferenceIdeal.Value

/-- The constant one quarter. -/
theorem bits_quarter : Ideal.ofBits .f32 0x3E800000#32 = ((1 / 4 : ℝ) : EReal) := by
  simp [Ideal.ofBits, Ideal.ieee, -EReal.coe_mul]; norm_num

/-- The constant 18. -/
theorem bits_18 : Ideal.ofBits .f32 0x41900000#32 = ((18 : ℝ) : EReal) := by
  simp [Ideal.ofBits, Ideal.ieee, -EReal.coe_mul]; norm_num

/-- The constant 12800. -/
theorem bits_12800 : Ideal.ofBits .f32 0x46480000#32 = ((12800 : ℝ) : EReal) := by
  simp [Ideal.ofBits, Ideal.ieee, -EReal.coe_mul]; norm_num

/-- The greatest element of a column, over the indices of the array that lie in it. -/
theorem col_max (x : S16x4096.Idx → EReal) (n : Fin 4096) :
    Finset.fold max (⊥ : EReal) x {i | reducesTo_S16x4096_S4096_d0.drop i = ix1 n}
      = Finset.univ.fold max ⊥ (fun k : Fin 16 => x (ix2 k n)) := by
  have h : S16x4096.Reduces [0] S4096 := by decide
  rw [Shape.ReducesTo.drop_eq_drop reducesTo_S16x4096_S4096_d0 h, h.fold_filter_drop_single]
  refine congrArg (fun g => Finset.fold max (⊥ : EReal) g Finset.univ) ?_
  funext k
  refine congrArg x ?_
  funext a
  fin_cases a <;> rfl

section Read

variable (V0 : Valuation τ sig (Elt Ideal)) {f : Fin 4096 → ℝ} {u : Fin 16 → Fin 4096 → ℝ} {sw bw cm : Fin 16 → Fin 16 → ℝ}

/-- The flattened unary terms. -/
abbrev unary : S16x4096.Idx → EReal := res_main_v114 V0

/-- The unary terms plus the messages. -/
abbrev updated : S16x4096.Idx → EReal := res_main_v142 V0

/-- The result array. -/
abbrev result : S16x4096.Idx → EReal :=
  Host.divf (res_main_v149 V0) (broadcastInDim S16x4096 ![0, 1] bcast_S1x4096_S16x4096_0_1 (broadcastInDim S1x4096 ![1] bcast_S4096_S1x4096_1 (Host.reduceAdd (res_main_v149 V0) (constant S_ .f32 0x00000000#32) reducesTo_S16x4096_S4096_d0 h_S_)))

/-- The three coordinates of a voxel. -/
def coord (n : ℕ) : Fin 3 → ℝ := ![((n / 256 : ℕ) : ℝ), ((n / 16 % 16 : ℕ) : ℝ), ((n % 16 : ℕ) : ℝ)]

/-- The table of coordinates. -/
theorem v11_read (n : Fin 4096) (c : Fin 3) : (res_main_v11 V0 : S4096x3.Idx → EReal) (ix2 n c) = ((coord n.val c : ℝ) : EReal) := by
  fin_cases c
  · show (res_main_v11 V0 : S4096x3.Idx → EReal) (ix2 n 0) = _
    pointwise [res_main_v11]
    exact sitofp_nat _ (by omega)
  · show (res_main_v11 V0 : S4096x3.Idx → EReal) (ix2 n 1) = _
    pointwise [res_main_v11]
    exact sitofp_nat _ (by omega)
  · show (res_main_v11 V0 : S4096x3.Idx → EReal) (ix2 n 2) = _
    pointwise [res_main_v11]
    exact sitofp_nat _ (by omega)

/-- The squared distances of the voxels. -/
theorem v25_read (m n : Fin 4096) : (res_main_v25 V0 : S4096x4096.Idx → EReal) (ix2 m n) = ((dist m n : ℝ) : EReal) := by
  pointwise [res_main_v25, res_main_v13, v11_read, bits_two]
  simp only [← EReal.coe_mul, coe_sum, ← EReal.coe_add, ← EReal.coe_sub]
  have e : (∑ x, coord m.val x * coord m.val x) + (∑ x, coord n.val x * coord n.val x) - 2 * ∑ x, coord m.val x * coord n.val x
      = dist m n := by
    simp only [Fin.sum_univ_three, coord, dist, Matrix.cons_val_zero, Matrix.cons_val_one, Matrix.cons_val_two,
      Matrix.head_cons, Matrix.tail_cons]
    ring
  rw [e]
  exact max_eq_left (EReal.coe_nonneg.mpr (dist_nonneg m n))

/-- The spatial kernel. -/
theorem v30_read (m n : Fin 4096) : (res_main_v30 V0 : S4096x4096.Idx → EReal) (ix2 m n) = ((Ks m n : ℝ) : EReal) := by
  pointwise [res_main_v30, v25_read, bits_18]
  rw [← EReal.coe_neg, coe_div (by norm_num), Ideal.exp_coe, Ks, gauss]
  congr 2
  ring

/-- The exponential of a column less its greatest element. -/
theorem v121_read (l : Fin 16) (n : Fin 4096) : (res_main_v121 V0 : S16x4096.Idx → EReal) (ix2 l n)
    = Ideal.exp (unary V0 (ix2 l n)
        - Finset.univ.fold max ⊥ (fun k : Fin 16 => unary V0 (ix2 k n))) := by
  pointwise [res_main_v121, bits_bot]
  exact congrArg (fun M => Ideal.exp (unary V0 (ix2 l n) - M)) ((max_eq_right bot_le).trans (col_max (unary V0) n))

/-- The softmax of the unary terms. -/
theorem v125_read (hu : ∀ l n, unary V0 (ix2 l n) = (u l n : EReal)) (l : Fin 16) (n : Fin 4096) :
    (res_main_v125 V0 : S16x4096.Idx → EReal) (ix2 l n) = ((softmax (fun k => u k n) l : ℝ) : EReal) := by
  pointwise [res_main_v125, v121_read]
  exact softmax_coe (fun k => unary V0 (ix2 k n)) (fun k => u k n) (fun k => hu k n) l

/-- The exponential of an updated column less its greatest element. -/
theorem v149_read (l : Fin 16) (n : Fin 4096) : (res_main_v149 V0 : S16x4096.Idx → EReal) (ix2 l n)
    = Ideal.exp (updated V0 (ix2 l n)
        - Finset.univ.fold max ⊥ (fun k : Fin 16 => updated V0 (ix2 k n))) := by
  pointwise [res_main_v149, bits_bot]
  exact congrArg (fun M => Ideal.exp (updated V0 (ix2 l n) - M)) ((max_eq_right bot_le).trans (col_max (updated V0) n))

/-- The product of the intensities over the square of the bandwidth. -/
theorem v38_read (hf : ∀ n, (res_main_v26 V0 : S4096.Idx → EReal) (ix1 n) = (f n : EReal)) (m n : Fin 4096) :
    (res_main_v38 V0 : S4096x4096.Idx → EReal) (ix2 m n) = ((4 * f m * f n : ℝ) : EReal) := by
  pointwise [res_main_v38, hf, bits_quarter]
  rw [← EReal.coe_mul, coe_div (by norm_num)]
  congr 1
  ring

/-- A term of the series is the one before it times the argument over its number. -/
theorem term_step (k : ℕ) (t : ℝ) {p x c : EReal} (hp : p = ((t ^ k / (k.factorial : ℝ) : ℝ) : EReal)) (hx : x = (t : EReal))
    (hc : c = (((k + 1 : ℕ) : ℝ) : EReal)) : Ideal.div (p * x) c = ((t ^ (k + 1) / ((k + 1).factorial : ℝ) : ℝ) : EReal) := by
  rw [hp, hx, hc, ← EReal.coe_mul, coe_div (by positivity), Nat.factorial_succ, Nat.cast_mul, pow_succ]
  congr 1
  field_simp

/-- The sixteen terms of the exponential series as the reference adds them. -/
theorem series_read (hf : ∀ n, (res_main_v26 V0 : S4096.Idx → EReal) (ix1 n) = (f n : EReal)) (m n : Fin 4096) :
    (res_main_v112 V0 : S4096x4096.Idx → EReal) (ix2 m n) = ((Kt f m n : ℝ) : EReal) := by
  have hx := v38_read V0 hf m n
  have h0 : (res_main_v39 V0 : S4096x4096.Idx → EReal) (ix2 m n) = (((4 * f m * f n) ^ 0 / ((0 : ℕ).factorial : ℝ) : ℝ) : EReal) := by
    pointwise [res_main_v39]
    simp
  have h1 : (res_main_v42 V0 : S4096x4096.Idx → EReal) (ix2 m n) = (((4 * f m * f n) ^ 1 / ((1 : ℕ).factorial : ℝ) : ℝ) : EReal) := by
    pointwise [res_main_v42]
    exact term_step 0 _ h0 hx (by simp)
  have h2 : (res_main_v46 V0 : S4096x4096.Idx → EReal) (ix2 m n) = (((4 * f m * f n) ^ 2 / ((2 : ℕ).factorial : ℝ) : ℝ) : EReal) := by
    pointwise [res_main_v46]
    exact term_step 1 _ h1 hx (bits_two.trans (by norm_num))
  have h3 : (res_main_v50 V0 : S4096x4096.Idx → EReal) (ix2 m n) = (((4 * f m * f n) ^ 3 / ((3 : ℕ).factorial : ℝ) : ℝ) : EReal) := by
    pointwise [res_main_v50]
    exact term_step 2 _ h2 hx (bits_3.trans (by norm_num))
  have h4 : (res_main_v54 V0 : S4096x4096.Idx → EReal) (ix2 m n) = (((4 * f m * f n) ^ 4 / ((4 : ℕ).factorial : ℝ) : ℝ) : EReal) := by
    pointwise [res_main_v54]
    exact term_step 3 _ h3 hx (bits_4.trans (by norm_num))
  have h5 : (res_main_v58 V0 : S4096x4096.Idx → EReal) (ix2 m n) = (((4 * f m * f n) ^ 5 / ((5 : ℕ).factorial : ℝ) : ℝ) : EReal) := by
    pointwise [res_main_v58]
    exact term_step 4 _ h4 hx (bits_5.trans (by norm_num))
  have h6 : (res_main_v62 V0 : S4096x4096.Idx → EReal) (ix2 m n) = (((4 * f m * f n) ^ 6 / ((6 : ℕ).factorial : ℝ) : ℝ) : EReal) := by
    pointwise [res_main_v62]
    exact term_step 5 _ h5 hx (bits_6.trans (by norm_num))
  have h7 : (res_main_v66 V0 : S4096x4096.Idx → EReal) (ix2 m n) = (((4 * f m * f n) ^ 7 / ((7 : ℕ).factorial : ℝ) : ℝ) : EReal) := by
    pointwise [res_main_v66]
    exact term_step 6 _ h6 hx (bits_7.trans (by norm_num))
  have h8 : (res_main_v70 V0 : S4096x4096.Idx → EReal) (ix2 m n) = (((4 * f m * f n) ^ 8 / ((8 : ℕ).factorial : ℝ) : ℝ) : EReal) := by
    pointwise [res_main_v70]
    exact term_step 7 _ h7 hx (bits_8.trans (by norm_num))
  have h9 : (res_main_v74 V0 : S4096x4096.Idx → EReal) (ix2 m n) = (((4 * f m * f n) ^ 9 / ((9 : ℕ).factorial : ℝ) : ℝ) : EReal) := by
    pointwise [res_main_v74]
    exact term_step 8 _ h8 hx (bits_9.trans (by norm_num))
  have h10 : (res_main_v78 V0 : S4096x4096.Idx → EReal) (ix2 m n) = (((4 * f m * f n) ^ 10 / ((10 : ℕ).factorial : ℝ) : ℝ) : EReal) := by
    pointwise [res_main_v78]
    exact term_step 9 _ h9 hx (bits_10.trans (by norm_num))
  have h11 : (res_main_v82 V0 : S4096x4096.Idx → EReal) (ix2 m n) = (((4 * f m * f n) ^ 11 / ((11 : ℕ).factorial : ℝ) : ℝ) : EReal) := by
    pointwise [res_main_v82]
    exact term_step 10 _ h10 hx (bits_11.trans (by norm_num))
  have h12 : (res_main_v86 V0 : S4096x4096.Idx → EReal) (ix2 m n) = (((4 * f m * f n) ^ 12 / ((12 : ℕ).factorial : ℝ) : ℝ) : EReal) := by
    pointwise [res_main_v86]
    exact term_step 11 _ h11 hx (bits_12.trans (by norm_num))
  have h13 : (res_main_v90 V0 : S4096x4096.Idx → EReal) (ix2 m n) = (((4 * f m * f n) ^ 13 / ((13 : ℕ).factorial : ℝ) : ℝ) : EReal) := by
    pointwise [res_main_v90]
    exact term_step 12 _ h12 hx (bits_13.trans (by norm_num))
  have h14 : (res_main_v94 V0 : S4096x4096.Idx → EReal) (ix2 m n) = (((4 * f m * f n) ^ 14 / ((14 : ℕ).factorial : ℝ) : ℝ) : EReal) := by
    pointwise [res_main_v94]
    exact term_step 13 _ h13 hx (bits_14.trans (by norm_num))
  pointwise [res_main_v112, res_main_v31, v25_read, bits_12800, bits_half, hf]
  rw [term_step 14 _ h14 hx (bits_15.trans (by norm_num)), h0, h1, h2, h3, h4, h5, h6, h7, h8, h9, h10, h11, h12, h13, h14]
  simp only [← EReal.coe_mul, ← EReal.coe_add, ← EReal.coe_neg]
  rw [coe_div (by norm_num), coe_div (by norm_num), ← EReal.coe_sub, Ideal.exp_coe, ← EReal.coe_mul, Kt, gauss, taylor,
    ← mul_assoc, ← Real.exp_add]
  simp only [Finset.sum_range_succ, Finset.sum_range_zero, zero_add]
  congr 3
  ring

/-- The updated column before the last softmax. -/
theorem v142_read (hf : ∀ n, (res_main_v26 V0 : S4096.Idx → EReal) (ix1 n) = (f n : EReal)) (hf0 : ∀ n, 0 ≤ f n)
    (hu : ∀ l n, unary V0 (ix2 l n) = (u l n : EReal))
    (hs : ∀ r c, (V0 (Proc.devRef .tc main_arg2) : S16x16.Idx → EReal) (ix2 r c) = (sw r c : EReal))
    (hb : ∀ r c, (V0 (Proc.devRef .tc main_arg3) : S16x16.Idx → EReal) (ix2 r c) = (bw r c : EReal))
    (hc : ∀ r c, (V0 (Proc.devRef .tc main_arg4) : S16x16.Idx → EReal) (ix2 r c) = (cm r c : EReal))
    (l : Fin 16) (n : Fin 4096) :
    updated V0 (ix2 l n) = ((u l n + message u sw bw cm Ks (Kt f) l n : ℝ) : EReal) := by
  pointwise [res_main_v142, v125_read V0 hu, v30_read, series_read V0 hf, hu, hs, hb, hc]
  have ks : ∀ n, ∑ m, Ks n m = ∑ m, Ks m n := fun n => Finset.sum_congr rfl fun m _ => gauss_symm _ _ _
  have kt : ∀ n, ∑ m, Kt f n m = ∑ m, Kt f m n := fun n => Finset.sum_congr rfl fun m _ => by
    rw [Kt, Kt, gauss_symm, add_comm (f n ^ 2), mul_right_comm]
  have hd : ∀ n, (∑ m, Ks m n) ≠ 0 := fun n => (sum_gauss_pos _ n).ne'
  have hd' : ∀ n, (∑ m, Kt f m n) ≠ 0 := fun n => (sum_Kt_pos hf0 n).ne'
  simp only [← EReal.coe_mul, coe_sum, ks, kt, coe_div (hd _), coe_div (hd' _), ← EReal.coe_add]
  rfl

/-- The reference's result. -/
theorem out_read (hf : ∀ n, (res_main_v26 V0 : S4096.Idx → EReal) (ix1 n) = (f n : EReal)) (hf0 : ∀ n, 0 ≤ f n)
    (hu : ∀ l n, unary V0 (ix2 l n) = (u l n : EReal))
    (hs : ∀ r c, (V0 (Proc.devRef .tc main_arg2) : S16x16.Idx → EReal) (ix2 r c) = (sw r c : EReal))
    (hb : ∀ r c, (V0 (Proc.devRef .tc main_arg3) : S16x16.Idx → EReal) (ix2 r c) = (bw r c : EReal))
    (hc : ∀ r c, (V0 (Proc.devRef .tc main_arg4) : S16x16.Idx → EReal) (ix2 r c) = (cm r c : EReal))
    (l : Fin 16) (n : Fin 4096) :
    result V0 (ix2 l n)
      = ((crf u sw bw cm Ks (Kt f) l n : ℝ) : EReal) := by
  pointwise [result, v149_read]
  exact softmax_coe (fun k => updated V0 (ix2 k n)) _ (fun k => v142_read V0 hf hf0 hu hs hb hc k n) l

end Read

end Cert.Crf.Ref
-- ==== Proof.Equation.lean ====
module

public import proofs.«01_k».proof.Proof.Precondition
public import proofs.«01_k».proof.Proof.Reference

/-! The kernel's result and the reference's, both at the real numbers the arguments hold. -/

@[expose] public section

set_option maxRecDepth 16384

noncomputable section

namespace Cert.Crf

open Idealize.ShloMosaic Idealize.ShloMosaic.TcCoe Idealize.SL.Sem Cert.KernelIdeal Cert.KernelIdeal.Gen

/-- The real logit of a class at a voxel. -/
def logit (U : Vec Ideal S1x16x16x16x16 .f32) (l : Fin 16) (n : Fin 4096) : ℝ :=
  (U (ix5 0 l ⟨n.val / 256, by omega⟩ ⟨n.val / 16 % 16, by omega⟩ ⟨n.val % 16, by omega⟩) : EReal).toReal

/-- The real intensity of a voxel. -/
def intensity (I : Vec Ideal S1x1x16x16x16 .f32) (n : Fin 4096) : ℝ :=
  (I (ix5 0 0 ⟨n.val / 256, by omega⟩ ⟨n.val / 16 % 16, by omega⟩ ⟨n.val % 16, by omega⟩) : EReal).toReal

/-- A real matrix of weights. -/
def weight (A : Vec Ideal S16x16 .f32) (r c : Fin 16) : ℝ := (A (ix2 r c) : EReal).toReal

section Both

variable {U : Vec Ideal S1x16x16x16x16 .f32} {I : Vec Ideal S1x1x16x16x16 .f32} {sw bw cm : Vec Ideal S16x16 .f32}

/-- The kernel's result at the arguments' real numbers. -/
theorem kernelOut_read (h : Finite U I sw bw cm) (l : Fin 16) (n : Fin 4096) :
    kernelOut U I sw bw cm (ix2 l n)
      = ((crf (logit U) (weight sw) (weight bw) (weight cm) Ks (Kt (intensity I)) l n : ℝ) : EReal) := by
  refine block_read ?_ ?_ ?_ (fun r c => h.s _) (fun r c => h.b _) (fun r c => h.c _) (fun n => h.nonneg _) l n
  · intro l n
    pointwise
    exact h.u _
  · intro n
    pointwise
    exact h.f _
  · intro z w
    pointwise
    refine (h.f _).trans ?_
    unfold vox
    have e0 : (z.val * 256 + w.val) / 256 = z.val := by omega
    have e1 : (z.val * 256 + w.val) / 16 % 16 = w.val / 16 := by omega
    have e2 : (z.val * 256 + w.val) % 16 = w.val % 16 := by omega
    simp only [e0, e1, e2]

end Both

/-- The reference's result is the kernel's, from equal arguments. -/
theorem reference_eq (V0 : Valuation Cert.ReferenceIdeal.τ Cert.ReferenceIdeal.sig (Elt Ideal))
    {U : Vec Ideal S1x16x16x16x16 .f32} {I : Vec Ideal S1x1x16x16x16 .f32} {sw bw cm : Vec Ideal S16x16 .f32} (h : Finite U I sw bw cm)
    (e0 : V0 (Proc.devRef .tc Cert.ReferenceIdeal.main_arg0) = U) (e1 : V0 (Proc.devRef .tc Cert.ReferenceIdeal.main_arg1) = I)
    (e2 : V0 (Proc.devRef .tc Cert.ReferenceIdeal.main_arg2) = sw) (e3 : V0 (Proc.devRef .tc Cert.ReferenceIdeal.main_arg3) = bw)
    (e4 : V0 (Proc.devRef .tc Cert.ReferenceIdeal.main_arg4) = cm) : (Ref.result V0 : S16x4096.Idx → EReal) = kernelOut U I sw bw cm := by
  subst e0 e1 e2 e3 e4
  funext j
  obtain ⟨l, n, rfl⟩ : ∃ (l : Fin 16) (n : Fin 4096), j = ix2 l n := ⟨j 0, j 1, eq_ix2 j⟩
  refine (Ref.out_read V0 (f := intensity _) (u := logit _) ?_ (fun n => h.nonneg _) ?_ (fun r c => h.s _) (fun r c => h.b _) (fun r c => h.c _) l n).trans
    (kernelOut_read h l n).symm
  · intro n
    pointwise [Cert.ReferenceIdeal.Value.res_main_v26]
    exact h.f _
  · intro l n
    pointwise [Ref.unary, Cert.ReferenceIdeal.Value.res_main_v114]
    exact h.u _

end Cert.Crf

end
-- ==== Proof.Error.lean ====
module

public import proofs.«01_k».proof.Proof.Update

/-! How far the truncated series moves the result: at most 1/128, for intensities in [0, 1] and bounded weights. -/

@[expose] public section

set_option maxRecDepth 16384

noncomputable section

namespace Cert.Crf

/-- The first sixteen terms are no more than the exponential, at a number that isn't negative. -/
theorem taylor_le {t : ℝ} (h : 0 ≤ t) : taylor t ≤ Real.exp t := Real.sum_le_exp_of_nonneg h 16

/-- Up to 4 they fall short of it by at most one part in 25000. -/
theorem taylor_ge {t : ℝ} (h0 : 0 ≤ t) (h4 : t ≤ 4) : Real.exp t * (1 - 1 / 25000) ≤ taylor t := by
  have hb := Complex.exp_bound' (x := (t : ℂ)) (n := 16) (by
    rw [Complex.norm_real, Real.norm_eq_abs, abs_of_nonneg h0]; norm_num; linarith)
  have hc : Complex.exp (t : ℂ) - ∑ m ∈ Finset.range 16, (t : ℂ) ^ m / (m.factorial : ℂ) = ((Real.exp t - taylor t : ℝ) : ℂ) := by
    simp only [taylor]; push_cast; rfl
  rw [hc, Complex.norm_real, Complex.norm_real, Real.norm_eq_abs, Real.norm_eq_abs, abs_of_nonneg h0] at hb
  have h1 := (le_abs_self _).trans hb
  have h2 : t ^ 4 / 24 ≤ Real.exp t := by
    have := Real.pow_div_factorial_le_exp t h0 4
    norm_num [Nat.factorial] at this
    exact this
  have h3 : t ^ 12 ≤ 4 ^ 12 := pow_le_pow_left₀ h0 h4 12
  have h5 : t ^ 16 / ((16).factorial : ℝ) * 2 = t ^ 12 * (t ^ 4 / 24) * (48 / 20922789888000) := by
    norm_num [Nat.factorial]; ring
  have h6 : t ^ 12 * (t ^ 4 / 24) ≤ 4 ^ 12 * Real.exp t := mul_le_mul h3 h2 (by positivity) (by positivity)
  rw [h5] at h1
  have h7 := Real.exp_pos t
  nlinarith

/-- The truncated bilateral Gaussian between the exact one and one part in 25000 less. -/
theorem Kt_bounds {f : Fin 4096 → ℝ} (h0 : ∀ n, 0 ≤ f n) (h1 : ∀ n, f n ≤ 1) (m n : Fin 4096) :
    Kb f m n * (1 - 1 / 25000) ≤ Kt f m n ∧ Kt f m n ≤ Kb f m n := by
  have ht0 : 0 ≤ 4 * f m * f n := by have := h0 m; have := h0 n; positivity
  have ht4 : 4 * f m * f n ≤ 4 := by nlinarith [h0 m, h0 n, h1 m, h1 n]
  have e : Kb f m n = gauss (-1 / 12800) m n * (Real.exp (-2 * (f m ^ 2 + f n ^ 2)) * Real.exp (4 * f m * f n)) := by
    rw [Kb, ← Real.exp_add]; congr 2; ring
  have hg : 0 ≤ gauss (-1 / 12800) m n := (gauss_pos _ _ _).le
  rw [e, Kt]
  constructor
  · rw [mul_assoc, mul_assoc]
    exact mul_le_mul_of_nonneg_left (mul_le_mul_of_nonneg_left (taylor_ge ht0 ht4) (Real.exp_pos _).le) hg
  · exact mul_le_mul_of_nonneg_left (mul_le_mul_of_nonneg_left (taylor_le ht0) (Real.exp_pos _).le) hg

/-- The exact bilateral Gaussian is positive. -/
theorem Kb_pos (f : Fin 4096 → ℝ) (m n : Fin 4096) : 0 < Kb f m n := mul_pos (gauss_pos _ _ _) (Real.exp_pos _)

/-- A filter of a field that isn't negative moves by at most one part in 24999 with its kernel. -/
theorem filter_close {K K' : Fin 4096 → Fin 4096 → ℝ} {q : Fin 4096 → ℝ} (n : Fin 4096) (hq : ∀ m, 0 ≤ q m) (hK : ∀ m, 0 < K m n)
    (hlo : ∀ m, K m n * (1 - 1 / 25000) ≤ K' m n) (hhi : ∀ m, K' m n ≤ K m n) :
    |filter K' q n - filter K q n| ≤ 1 / 24999 * filter K q n := by
  have hD : 0 < ∑ m, K m n := Finset.sum_pos (fun m _ => hK m) Finset.univ_nonempty
  have hA : 0 ≤ ∑ m, q m * K m n := Finset.sum_nonneg fun m _ => mul_nonneg (hq m) (hK m).le
  have hD1 : (∑ m, K m n) * (1 - 1 / 25000) ≤ ∑ m, K' m n := by
    rw [Finset.sum_mul]; exact Finset.sum_le_sum fun m _ => hlo m
  have hD2 : ∑ m, K' m n ≤ ∑ m, K m n := Finset.sum_le_sum fun m _ => hhi m
  have hA1 : (∑ m, q m * K m n) * (1 - 1 / 25000) ≤ ∑ m, q m * K' m n := by
    rw [Finset.sum_mul]
    refine Finset.sum_le_sum fun m _ => ?_
    rw [mul_assoc]
    exact mul_le_mul_of_nonneg_left (hlo m) (hq m)
  have hA2 : ∑ m, q m * K' m n ≤ ∑ m, q m * K m n := Finset.sum_le_sum fun m _ => mul_le_mul_of_nonneg_left (hhi m) (hq m)
  unfold filter
  generalize (∑ m, K m n) = D at *
  generalize (∑ m, K' m n) = D' at *
  generalize (∑ m, q m * K m n) = A at *
  generalize (∑ m, q m * K' m n) = A' at *
  have hD' : 0 < D' := lt_of_lt_of_le (by positivity) hD1
  have hA' : 0 ≤ A' := le_trans (by positivity) hA1
  have h1 : A' / D' ≤ A / D * (25000 / 24999) := by
    rw [div_mul_div_comm, div_le_div_iff₀ hD' (by positivity)]
    nlinarith
  have h2 : A / D * (1 - 1 / 25000) ≤ A' / D' := by
    rw [div_mul_eq_mul_div, div_le_div_iff₀ hD hD']
    nlinarith
  have h3 : 0 ≤ A / D := by positivity
  rw [abs_le]
  constructor <;> linarith

/-- The softmax is positive. -/
theorem softmax_pos (r : Fin 16 → ℝ) (l : Fin 16) : 0 < softmax r l := div_pos (Real.exp_pos _) (sum_exp_pos r)

/-- The softmax sums to one. -/
theorem sum_softmax (r : Fin 16 → ℝ) : ∑ l, softmax r l = 1 := by
  simp only [softmax]
  rw [← Finset.sum_div]
  exact div_self (sum_exp_pos r).ne'

/-- The filters of the labels' softmax sum to one. -/
theorem sum_filter {K : Fin 4096 → Fin 4096 → ℝ} (u : Fin 16 → Fin 4096 → ℝ) (n : Fin 4096) (hK : ∀ m, 0 < K m n) :
    ∑ a, filter K (fun m => softmax (fun k => u k m) a) n = 1 := by
  have hD : 0 < ∑ m, K m n := Finset.sum_pos (fun m _ => hK m) Finset.univ_nonempty
  simp only [filter]
  rw [← Finset.sum_div, Finset.sum_comm]
  simp only [← Finset.sum_mul, sum_softmax, one_mul]
  exact div_self hD.ne'

/-- The messages of the two bilateral kernels are within 80/24999 of each other. -/
theorem message_close {f : Fin 4096 → ℝ} (h0 : ∀ n, 0 ≤ f n) (h1 : ∀ n, f n ≤ 1) {bw cm : Fin 16 → Fin 16 → ℝ}
    (hb : ∀ r c, |bw r c| ≤ 5) (hc : ∀ r c, |cm r c| ≤ 1) (u : Fin 16 → Fin 4096 → ℝ) (sw : Fin 16 → Fin 16 → ℝ) (l : Fin 16) (n : Fin 4096) :
    |message u sw bw cm Ks (Kt f) l n - message u sw bw cm Ks (Kb f) l n| ≤ 80 / 24999 := by
  simp only [message]
  rw [← Finset.sum_sub_distrib]
  simp only [← mul_sub, add_sub_add_left_eq_sub, ← Finset.sum_sub_distrib]
  refine (Finset.abs_sum_le_sum_abs _ _).trans ((Finset.sum_le_sum (g := fun _ => (5 / 24999 : ℝ)) fun b _ => ?_).trans ?_)
  · rw [abs_mul]
    refine (mul_le_mul (hc l b) (?_ : _ ≤ (5 / 24999 : ℝ)) (abs_nonneg _) zero_le_one).trans (by norm_num)
    refine (Finset.abs_sum_le_sum_abs _ _).trans ((Finset.sum_le_sum fun a _ => ?_).trans_eq
      (?_ : (∑ a, 5 / 24999 * filter (Kb f) (fun m => softmax (fun k => u k m) a) n) = _))
    · rw [abs_mul]
      have hf := filter_close (K := Kb f) (K' := Kt f) (q := fun m => softmax (fun k => u k m) a) n (fun m => (softmax_pos _ _).le)
        (fun m => Kb_pos f m n) (fun m => (Kt_bounds h0 h1 m n).1) fun m => (Kt_bounds h0 h1 m n).2
      refine (mul_le_mul (hb b a) hf (abs_nonneg _) (by norm_num)).trans_eq (by ring)
    · rw [← Finset.mul_sum, sum_filter u n fun m => Kb_pos f m n, mul_one]
  · simp; norm_num

/-- The softmax of arguments within `d` of each other. -/
theorem softmax_ratio {x y : Fin 16 → ℝ} {d : ℝ} (h : ∀ k, |x k - y k| ≤ d) (l : Fin 16) : softmax x l ≤ Real.exp (2 * d) * softmax y l := by
  have hx (k) : Real.exp (x k) ≤ Real.exp d * Real.exp (y k) := by
    rw [← Real.exp_add]; exact Real.exp_le_exp.mpr (by have := (abs_le.mp (h k)).2; linarith)
  have hy (k) : Real.exp (y k) ≤ Real.exp d * Real.exp (x k) := by
    rw [← Real.exp_add]; exact Real.exp_le_exp.mpr (by have := (abs_le.mp (h k)).1; linarith)
  have hs : ∑ k, Real.exp (y k) ≤ Real.exp d * ∑ k, Real.exp (x k) := by
    rw [Finset.mul_sum]; exact Finset.sum_le_sum fun k _ => hy k
  simp only [softmax]
  rw [← mul_div_assoc, div_le_div_iff₀ (sum_exp_pos x) (sum_exp_pos y), two_mul, Real.exp_add]
  calc Real.exp (x l) * ∑ k, Real.exp (y k)
      ≤ (Real.exp d * Real.exp (y l)) * (Real.exp d * ∑ k, Real.exp (x k)) :=
        mul_le_mul (hx l) hs (sum_exp_pos y).le (by positivity)
    _ = _ := by ring

/-- The softmax lies below one. -/
theorem softmax_le_one (r : Fin 16 → ℝ) (l : Fin 16) : softmax r l ≤ 1 :=
  (Finset.single_le_sum (fun k _ => (softmax_pos r k).le) (Finset.mem_univ l)).trans_eq (sum_softmax r)

/-- The softmax moves by at most 1/128 where its arguments move by at most 80/24999. -/
theorem softmax_close {x y : Fin 16 → ℝ} (h : ∀ k, |x k - y k| ≤ 80 / 24999) (l : Fin 16) : |softmax x l - softmax y l| ≤ 1 / 128 := by
  have he : Real.exp (2 * (80 / 24999)) ≤ 129 / 128 := by
    have h1 := Real.one_sub_le_exp_neg (2 * (80 / 24999))
    rw [Real.exp_neg] at h1
    have h2 := Real.exp_pos (2 * (80 / 24999))
    have h3 : (128 / 129 : ℝ) ≤ (Real.exp (2 * (80 / 24999)))⁻¹ := le_trans (by norm_num) h1
    rw [le_inv_comm₀ (by norm_num) h2] at h3
    exact h3.trans_eq (by norm_num)
  have hxy := (softmax_ratio h l).trans (mul_le_mul_of_nonneg_right he (softmax_pos y l).le)
  have hyx := (softmax_ratio (fun k => (abs_sub_comm _ _).trans_le (h k)) l).trans (mul_le_mul_of_nonneg_right he (softmax_pos x l).le)
  have := softmax_le_one x l
  have := softmax_le_one y l
  rw [abs_le]
  constructor <;> linarith

/-- The updates with the two bilateral kernels are within 1/128 of each other. -/
theorem crf_close {f : Fin 4096 → ℝ} (h0 : ∀ n, 0 ≤ f n) (h1 : ∀ n, f n ≤ 1) {bw cm : Fin 16 → Fin 16 → ℝ}
    (hb : ∀ r c, |bw r c| ≤ 5) (hc : ∀ r c, |cm r c| ≤ 1) (u : Fin 16 → Fin 4096 → ℝ) (sw : Fin 16 → Fin 16 → ℝ) (l : Fin 16) (n : Fin 4096) :
    |crf u sw bw cm Ks (Kt f) l n - crf u sw bw cm Ks (Kb f) l n| ≤ 1 / 128 :=
  softmax_close (fun k => by rw [add_sub_add_left_eq_sub]; exact message_close h0 h1 hb hc u sw k n) l

end Cert.Crf

end
-- ==== Proof.Closeness.lean ====
module

public import proofs.«01_k».proof.Defs
public import proofs.«01_k».proof.Proof.Gen.Post_close
public import proofs.«01_k».proof.Proof.Reference
public import proofs.«01_k».proof.Proof.Error

/-! The postcondition `close`, read at an index: the exact update of the arguments, and its distance from the result. -/

@[expose] public section

set_option maxRecDepth 16384

noncomputable section

namespace Cert.Crf.Post

open Idealize.ShloMosaic Cert.Post_close Cert.Post_close.Gen

/-- The array that is zero everywhere, as the sums start from it. -/
abbrev zero : FVec Ideal S_ .f32 := constant S_ .f32 0x00000000#32

/-- The array of the least element. -/
abbrev least : FVec Ideal S_ .f32 := constant S_ .f32 0xFF800000#32

/-- One element per voxel, repeated over the labels. -/
abbrev rows (x : FVec Ideal S4096 .f32) : FVec Ideal S16x4096 .f32 :=
  broadcastInDim S16x4096 ![0, 1] bcast_S1x4096_S16x4096_0_1 (broadcastInDim S1x4096 ![1] bcast_S4096_S1x4096_1 x)

/-- The exponentials of the columns of `x`, the greatest element taken off first. -/
def expShift (x : FVec Ideal S16x4096 .f32) : FVec Ideal S16x4096 .f32 :=
  Host.exp (subf x (rows (maximumf (broadcastInDim S4096 ![] bcast_S_S4096 least)
    (Host.reduce FloatOps.maximumf x least reducesTo_S16x4096_S4096_d0 h_S_))))

/-- The softmax of the columns of `x`. -/
def soft (x : FVec Ideal S16x4096 .f32) : FVec Ideal S16x4096 .f32 :=
  Host.divf (expShift x) (rows (Host.reduceAdd (expShift x) zero reducesTo_S16x4096_S4096_d0 h_S_))

/-- The product of a matrix of weights and the labels' rows. -/
def weigh (a : FVec Ideal S16x16 .f32) (b : FVec Ideal S16x4096 .f32) : FVec Ideal S16x4096 .f32 :=
  Host.reduceAdd (mulf
    (broadcastInDim S16x16x4096 ![0, 1, 2] bcast_S16x16x1_S16x16x4096_0_1_2 (broadcastInDim S16x16x1 ![0, 1] bcast_S16x16_S16x16x1_0_1 a))
    (broadcastInDim S16x16x4096 ![0, 1, 2] bcast_S1x16x4096_S16x16x4096_0_1_2 (broadcastInDim S1x16x4096 ![1, 2] bcast_S16x4096_S1x16x4096_1_2 b)))
    zero reducesTo_S16x16x4096_S16x4096_d1 h_S_

/-- The normalised filter of the rows of `q` by the Gaussian `k`. -/
def filt (k : FVec Ideal S4096x4096 .f32) (q : FVec Ideal S16x4096 .f32) : FVec Ideal S16x4096 .f32 :=
  Host.divf (Host.reduceAdd (mulf
    (broadcastInDim S16x4096x4096 ![0, 1, 2] bcast_S16x4096x1_S16x4096x4096_0_1_2 (broadcastInDim S16x4096x1 ![0, 1] bcast_S16x4096_S16x4096x1_0_1 q))
    (broadcastInDim S16x4096x4096 ![0, 1, 2] bcast_S1x4096x4096_S16x4096x4096_0_1_2 (broadcastInDim S1x4096x4096 ![1, 2] bcast_S4096x4096_S1x4096x4096_1_2 k)))
    zero reducesTo_S16x4096x4096_S16x4096_d1 h_S_)
    (rows (Host.reduceAdd k zero reducesTo_S4096x4096_S4096_d1 h_S_))

/-- The table of the voxels' coordinates. -/
def table : FVec Ideal S4096x3 .f32 :=
  sitofp .f32 (shapeCast S4096x3 (concatenate S16x16x16x3 3
    [⟨S16x16x16x1, broadcastInDim S16x16x16x1 ![0, 1, 2] bcast_S16x16x16_S16x16x16x1_0_1_2 (broadcastInDim S16x16x16 ![0] bcast_S16_S16x16x16_0 (iotaInDim S16 32 0))⟩,
      ⟨S16x16x16x1, broadcastInDim S16x16x16x1 ![0, 1, 2] bcast_S16x16x16_S16x16x16x1_0_1_2 (broadcastInDim S16x16x16 ![1] bcast_S16_S16x16x16_1 (iotaInDim S16 32 0))⟩,
      ⟨S16x16x16x1, broadcastInDim S16x16x16x1 ![0, 1, 2] bcast_S16x16x16_S16x16x16x1_0_1_2 (broadcastInDim S16x16x16 ![2] bcast_S16_S16x16x16_2 (iotaInDim S16 32 0))⟩]
    concatenates_S16x16x16x1_S16x16x16x1_S16x16x16x1_S16x16x16x3_d3) shapeCasts_S16x16x16x3_S4096x3)

/-- The differences of the coordinates of two voxels. -/
def offsets : FVec Ideal S4096x4096x3 .f32 :=
  subf (broadcastInDim S4096x4096x3 ![0, 1, 2] bcast_S4096x1x3_S4096x4096x3_0_1_2 (broadcastInDim S4096x1x3 ![0, 2] bcast_S4096x3_S4096x1x3_0_2 table))
    (broadcastInDim S4096x4096x3 ![0, 1, 2] bcast_S1x4096x3_S4096x4096x3_0_1_2 (broadcastInDim S1x4096x3 ![1, 2] bcast_S4096x3_S1x4096x3_1_2 table))

/-- The squared distances of the voxels. -/
def dist2 : FVec Ideal S4096x4096 .f32 :=
  Host.reduceAdd (mulf offsets offsets) zero reducesTo_S4096x4096x3_S4096x4096_d2 h_S_

/-- The differences of the intensities of two voxels. -/
def contrast (I : FVec Ideal S1x1x16x16x16 .f32) : FVec Ideal S4096x4096 .f32 :=
  subf (broadcastInDim S4096x4096 ![0, 1] bcast_S4096x1_S4096x4096_0_1 (broadcastInDim S4096x1 ![0] bcast_S4096_S4096x1_0 (shapeCast S4096 I shapeCasts_S1x1x16x16x16_S4096)))
    (broadcastInDim S4096x4096 ![0, 1] bcast_S1x4096_S4096x4096_0_1 (broadcastInDim S1x4096 ![1] bcast_S4096_S1x4096_1 (shapeCast S4096 I shapeCasts_S1x1x16x16x16_S4096)))

/-- The negated distances divided by a constant. -/
abbrev scaledDist (w : BitVec 32) : FVec Ideal S4096x4096 .f32 :=
  Host.divf (Host.negf dist2) (broadcastInDim S4096x4096 ![] bcast_S_S4096x4096 (constant S_ .f32 w))

/-- The spatial Gaussian. -/
def near : FVec Ideal S4096x4096 .f32 := Host.exp (scaledDist 0x41900000#32)

/-- The exact bilateral Gaussian. -/
def alike (I : FVec Ideal S1x1x16x16x16 .f32) : FVec Ideal S4096x4096 .f32 :=
  Host.exp (subf (scaledDist 0x46480000#32)
    (Host.divf (mulf (contrast I) (contrast I)) (broadcastInDim S4096x4096 ![] bcast_S_S4096x4096 (constant S_ .f32 0x3F000000#32))))

/-- The flattened logits. -/
def flat (U : FVec Ideal S1x16x16x16x16 .f32) : FVec Ideal S16x4096 .f32 :=
  shapeCast S16x4096 (shapeCast S16x16x16x16 U shapeCasts_S1x16x16x16x16_S16x16x16x16) shapeCasts_S16x16x16x16_S16x4096

/-- The exact update. -/
def exact (U : FVec Ideal S1x16x16x16x16 .f32) (I : FVec Ideal S1x1x16x16x16 .f32) (sw bw cm : FVec Ideal S16x16 .f32) : FVec Ideal S16x4096 .f32 :=
  soft (addf (flat U) (weigh cm (addf (weigh sw (filt near (soft (flat U)))) (weigh bw (filt (alike I) (soft (flat U)))))))

/-- The postcondition compares the distance from the exact update with 1/128. -/
theorem fn_eq (U : FVec Ideal S1x16x16x16x16 .f32) (I : FVec Ideal S1x1x16x16x16 .f32) (sw bw cm : FVec Ideal S16x16 .f32) (out : FVec Ideal S16x4096 .f32) :
    Cert.Post_close.fn (F := Ideal) U I sw bw cm out
      = cmpf .ole (Host.absf (subf out (exact U I sw bw cm))) (broadcastInDim S16x4096 ![] bcast_S_S16x4096 (constant S_ .f32 0x3C000000#32)) := rfl

section Read

variable {f : Fin 4096 → ℝ} {u : Fin 16 → Fin 4096 → ℝ}

/-- The exponential of a column less its greatest element. -/
theorem expShift_read (x : FVec Ideal S16x4096 .f32) (l : Fin 16) (n : Fin 4096) :
    expShift x (ix2 l n) = Ideal.exp ((x (ix2 l n) : EReal) - Finset.univ.fold max ⊥ (fun k : Fin 16 => (x (ix2 k n) : EReal))) := by
  pointwise [expShift, bits_bot]
  exact congrArg (fun M => Ideal.exp ((x (ix2 l n) : EReal) - M)) (max_eq_right bot_le)

/-- The softmax of real columns. -/
theorem soft_read (x : FVec Ideal S16x4096 .f32) (hu : ∀ l n, x (ix2 l n) = (u l n : EReal)) (l : Fin 16) (n : Fin 4096) :
    soft x (ix2 l n) = ((softmax (fun k => u k n) l : ℝ) : EReal) := by
  pointwise [soft, expShift_read]
  exact softmax_coe (fun k => x (ix2 k n)) (fun k => u k n) (fun k => hu k n) l

/-- The product of real matrices. -/
theorem weigh_read {a : FVec Ideal S16x16 .f32} {b : FVec Ideal S16x4096 .f32} {w : Fin 16 → Fin 16 → ℝ}
    (ha : ∀ r c, a (ix2 r c) = (w r c : EReal)) (hb : ∀ l n, b (ix2 l n) = (u l n : EReal)) (l : Fin 16) (n : Fin 4096) :
    weigh a b (ix2 l n) = ((∑ k, w l k * u k n : ℝ) : EReal) := by
  pointwise [weigh, ha, hb]
  simp only [← EReal.coe_mul, coe_sum]

/-- The filter of real rows by a positive symmetric Gaussian. -/
theorem filt_read {k : FVec Ideal S4096x4096 .f32} {q : FVec Ideal S16x4096 .f32} {K : Fin 4096 → Fin 4096 → ℝ}
    (hk : ∀ m n, k (ix2 m n) = (K m n : EReal)) (hq : ∀ l n, q (ix2 l n) = (u l n : EReal)) (hp : ∀ m n, 0 < K m n)
    (hs : ∀ m n, K m n = K n m) (l : Fin 16) (n : Fin 4096) :
    filt k q (ix2 l n) = ((filter K (u l) n : ℝ) : EReal) := by
  pointwise [filt, hk, hq]
  have h : ∑ m, K n m = ∑ m, K m n := Finset.sum_congr rfl fun m _ => hs n m
  have hd : (∑ m, K m n) ≠ 0 := (Finset.sum_pos (fun m _ => hp m n) Finset.univ_nonempty).ne'
  simp only [← EReal.coe_mul, coe_sum, h, coe_div hd]
  rfl

/-- The table of coordinates. -/
theorem table_read (n : Fin 4096) (c : Fin 3) : table (ix2 n c) = ((Ref.coord n.val c : ℝ) : EReal) := by
  fin_cases c
  · show table (ix2 n 0) = _
    pointwise [table]
    exact sitofp_nat _ (by omega)
  · show table (ix2 n 1) = _
    pointwise [table]
    exact sitofp_nat _ (by omega)
  · show table (ix2 n 2) = _
    pointwise [table]
    exact sitofp_nat _ (by omega)

/-- The squared distances. -/
theorem dist2_read (m n : Fin 4096) : dist2 (ix2 m n) = ((dist m n : ℝ) : EReal) := by
  pointwise [dist2, offsets, table_read]
  simp only [← EReal.coe_sub, ← EReal.coe_mul, coe_sum]
  congr 1
  simp only [Fin.sum_univ_three, Ref.coord, dist, Matrix.cons_val_zero, Matrix.cons_val_one, Matrix.cons_val_two, Matrix.head_cons, Matrix.tail_cons]
  ring

/-- The spatial Gaussian. -/
theorem near_read (m n : Fin 4096) : near (ix2 m n) = ((Ks m n : ℝ) : EReal) := by
  pointwise [near, dist2_read, Ref.bits_18]
  rw [← EReal.coe_neg, coe_div (by norm_num), Ideal.exp_coe, Ks, gauss]
  congr 2
  ring

/-- The exact bilateral Gaussian. -/
theorem alike_read (I : FVec Ideal S1x1x16x16x16 .f32)
    (hf : ∀ n, (shapeCast S4096 I shapeCasts_S1x1x16x16x16_S4096) (ix1 n) = (f n : EReal)) (m n : Fin 4096) :
    alike I (ix2 m n) = ((Kb f m n : ℝ) : EReal) := by
  generalize hg : shapeCast S4096 I shapeCasts_S1x1x16x16x16_S4096 = g at hf
  pointwise [alike, contrast, dist2_read, Ref.bits_12800, bits_half, hg, hf]
  simp only [← EReal.coe_sub, ← EReal.coe_mul, ← EReal.coe_neg]
  rw [coe_div (by norm_num), coe_div (by norm_num), ← EReal.coe_sub, Ideal.exp_coe, Kb, gauss, ← Real.exp_add]
  congr 2
  ring

/-- The exact update of real arguments. -/
theorem exact_read {U : FVec Ideal S1x16x16x16x16 .f32} {I : FVec Ideal S1x1x16x16x16 .f32} {sw bw cm : FVec Ideal S16x16 .f32}
    {s b c : Fin 16 → Fin 16 → ℝ} (hu : ∀ l n, flat U (ix2 l n) = (u l n : EReal))
    (hf : ∀ n, (shapeCast S4096 I shapeCasts_S1x1x16x16x16_S4096) (ix1 n) = (f n : EReal))
    (hs : ∀ i j, sw (ix2 i j) = (s i j : EReal)) (hb : ∀ i j, bw (ix2 i j) = (b i j : EReal)) (hc : ∀ i j, cm (ix2 i j) = (c i j : EReal))
    (l : Fin 16) (n : Fin 4096) : exact U I sw bw cm (ix2 l n) = ((crf u s b c Ks (Kb f) l n : ℝ) : EReal) := by
  have hq := soft_read (flat U) hu
  have h1 := weigh_read hs (filt_read near_read hq (gauss_pos _) (gauss_symm _))
  have h2 := weigh_read hb (filt_read (alike_read I hf) hq (Kb_pos f) fun m n => by
    rw [Kb, Kb, gauss_symm]; congr 2; ring)
  refine soft_read (u := fun k n => u k n + message u s b c Ks (Kb f) k n) _ (fun k n => ?_) l n
  have h3 := weigh_read (b := addf (weigh sw (filt near (soft (flat U)))) (weigh bw (filt (alike I) (soft (flat U))))) hc
    (fun i j => (congrArg₂ (fun x y : EReal => x + y) (h1 i j) (h2 i j)).trans (EReal.coe_add _ _).symm) k n
  exact (congrArg₂ (fun x y : EReal => x + y) (hu k n) h3).trans (EReal.coe_add _ _).symm

end Read

end Cert.Crf.Post

end
-- ==== Proof.UnitImage.lean ====
module

public import proofs.«01_k».proof.Proof.Gen.Pre_unit_image
public import proofs.«01_k».proof.Proof.Equation
public import proofs.«01_k».proof.Proof.Closeness

/-! Under `unit_image` the kernel's result is within 1/128 of the exact update. -/

@[expose] public section

set_option maxRecDepth 16384

noncomputable section

namespace Cert.Crf

open Idealize.ShloMosaic Idealize.ShloMosaic.TcCoe Idealize.SL.Sem Cert.KernelIdeal Cert.KernelIdeal.Gen

/-- The constant five. -/
theorem bits_five : Ideal.ofBits .f32 0x40A00000#32 = ((5 : ℝ) : EReal) := bits_5

/-- The constant 1/128. -/
theorem bits_tolerance : Ideal.ofBits .f32 0x3C000000#32 = ((1 / 128 : ℝ) : EReal) := by
  simp [Ideal.ofBits, Ideal.ieee, -EReal.coe_mul]; norm_num

/-- The absolute value of a real number, over the extended reals. -/
theorem absf_coe (r : ℝ) : (FloatOps.absf (F := Ideal) (φ := .f32) (r : EReal) : EReal) = ((|r| : ℝ) : EReal) := by
  show max (r : EReal) (-(r : EReal)) = _
  rw [← EReal.coe_neg, ← EReal.coe_strictMono.monotone.map_max]
  rfl

/-- An extended real whose absolute value is at most a real number is a real number of that size. -/
theorem real_of_abs_le {x : EReal} {b : ℝ} (h : (FloatOps.absf (F := Ideal) (φ := .f32) x : EReal) ≤ (b : EReal)) :
    x = ((x.toReal : ℝ) : EReal) ∧ |x.toReal| ≤ b := by
  have hx := real_of_abs_lt (h.trans_lt (EReal.coe_lt_top b))
  refine ⟨hx, ?_⟩
  rw [hx, absf_coe] at h
  exact EReal.coe_le_coe_iff.mp h

/-- What `unit_image` adds to finiteness: the bounds of one device's arguments. -/
structure Bounded (U : Vec Ideal S1x16x16x16x16 .f32) (I : Vec Ideal S1x1x16x16x16 .f32) (sw bw cm : Vec Ideal S16x16 .f32) : Prop where
  fin : Finite U I sw bw cm
  f : ∀ i, (I i : EReal).toReal ≤ 1
  b : ∀ i, |(bw i : EReal).toReal| ≤ 5
  c : ∀ i, |(cm i : EReal).toReal| ≤ 1

/-- The precondition gives them of every device's arguments. -/
theorem bounded_of_pre (m : (ℓ : Loc nD τ sig) → Buf (Elt Ideal) ℓ)
    (h : Pre_KernelIdeal_unit_image (hPre_unit_image := Cert.Pre_unit_image.Gen.facts) m) (c : Dev nD) :
    Bounded (argU m c) (argI m c) (argS m c) (argB m c) (argC m c) := by
  obtain ⟨hu, hi, hs, hb, hc⟩ := h c
  unfold Cert.Pre_unit_image.fn at hu hi hs hb hc
  dsimp only at hu hi hs hb hc
  have hf (i) := of_bits (by have h := congrFun hi i; pointwise at h; exact h)
  have fin (x : EReal) (h : BitVec.ofBool (decide ((FloatOps.absf (F := Ideal) (φ := .f32) x : EReal) < Ideal.ofBits .f32 0x7F800000#32)) = 1#1) :
      x = ((x.toReal : ℝ) : EReal) := real_of_abs_lt (bits_top ▸ of_bit h)
  have hu' (i) := fin (argU m c i) (by have h := congrFun hu i; pointwise at h; exact h)
  have hs' (i) := fin (argS m c i) (by have h := congrFun hs i; pointwise at h; exact h)
  have five (x : EReal) (h : BitVec.ofBool (decide ((FloatOps.absf (F := Ideal) (φ := .f32) x : EReal) ≤ Ideal.ofBits .f32 0x40A00000#32)) = 1#1) :
      x = ((x.toReal : ℝ) : EReal) ∧ |x.toReal| ≤ 5 := real_of_abs_le ((of_bit h).trans_eq bits_five)
  have hb' (i) := five (argB m c i) (by have h := congrFun hb i; pointwise at h; exact h)
  have hc' (i) := real_of_abs_le (x := argC m c i) (b := 1)
    (of_bit (by have h := congrFun hc i; pointwise at h; exact h))
  have h1 (i) : (argI m c i : EReal) ≤ ((1 : ℝ) : EReal) := (hf i).2
  have hi' (i) : argI m c i = (((argI m c i : EReal).toReal : ℝ) : EReal) := by
    refine real_of_bounds (fun e => ?_) (fun e => ?_)
    · exact absurd ((hf i).1.trans e.le) (by simp)
    · exact absurd (e.symm.le.trans (h1 i)) (EReal.coe_lt_top 1).not_ge
  refine ⟨⟨hu', hi', fun i => EReal.toReal_nonneg (hf i).1, hs', fun i => (hb' i).1, fun i => (hc' i).1⟩, fun i => ?_,
    fun i => (hb' i).2, fun i => (hc' i).2⟩
  have := h1 i
  rw [hi' i] at this
  exact EReal.coe_le_coe_iff.mp this

/-- The postcondition holds of the kernel's result. -/
theorem close_kernelOut {U : Vec Ideal S1x16x16x16x16 .f32} {I : Vec Ideal S1x1x16x16x16 .f32} {sw bw cm : Vec Ideal S16x16 .f32}
    (h : Bounded U I sw bw cm) :
    Cert.Post_close.fn (F := Ideal) U I sw bw cm (kernelOut U I sw bw cm) = fun _ => 1#1 := by
  rw [Post.fn_eq]
  funext j
  obtain ⟨l, n, rfl⟩ : ∃ (l : Fin 16) (n : Fin 4096), j = ix2 l n := ⟨j 0, j 1, eq_ix2 j⟩
  have he : Post.exact U I sw bw cm (ix2 l n)
      = ((crf (logit U) (weight sw) (weight bw) (weight cm) Ks (Kb (intensity I)) l n : ℝ) : EReal) := by
    refine Post.exact_read ?_ ?_ (fun i j => h.fin.s _) (fun i j => h.fin.b _) (fun i j => h.fin.c _) l n
    · intro l n
      pointwise [Post.flat]
      exact h.fin.u _
    · intro n
      pointwise
      exact h.fin.f _
  have hk := kernelOut_read h.fin l n
  have hc := crf_close (fun n => h.fin.nonneg _) (fun n => h.f _) (fun r c => h.b _) (fun r c => h.c _) (logit U) (weight sw) l n
    (f := intensity I) (bw := weight bw) (cm := weight cm)
  generalize kernelOut U I sw bw cm = out at hk
  generalize Post.exact U I sw bw cm = want at he
  pointwise [hk, he]
  rw [← EReal.coe_sub, absf_coe, bits_tolerance, decide_eq_true (EReal.coe_le_coe_iff.mpr hc)]
  rfl

end Cert.Crf

end
-- ==== Proof.Claims.lean ====
module

public import proofs.«01_k».proof.Proof.UnitImage
public import proofs.«01_k».proof.Proof.Gen.Kernel.Frame
public import proofs.«01_k».proof.Proof.Gen.KernelIdeal.Frame

/-! The claims about the three programs, one by one. -/

@[expose] public section

set_option maxRecDepth 16384

noncomputable section

namespace Cert.Crf

open Idealize.ShloMosaic Idealize.ShloMosaic.TcCoe Idealize.SL.Sem

/-- The kernel runs and leaves its arguments alone. -/
theorem frame_kernel : Cert.quiescent_Kernel (hKernel := Cert.Kernel.Gen.facts) := fun m ρ _ => Cert.Kernel.Gen.frame m ρ

/-- So does the idealized kernel. -/
theorem frame_ideal : Cert.quiescent_KernelIdeal (hKernelIdeal := Cert.KernelIdeal.Gen.facts) :=
  fun m ρ _ => Cert.KernelIdeal.Gen.frame m ρ

/-- And it does so under the precondition. -/
theorem frame_ideal_finite : Cert.quiescent_KernelIdeal_pre_finite_image (hKernelIdeal := Cert.KernelIdeal.Gen.facts)
    (hPre_finite_image := Cert.Pre_finite_image.Gen.facts) := fun m ρ _ => Cert.KernelIdeal.Gen.frame m ρ

/-- And it does so under the precondition of the error bound. -/
theorem frame_ideal_unit : Cert.quiescent_KernelIdeal_pre_unit_image (hKernelIdeal := Cert.KernelIdeal.Gen.facts)
    (hPre_unit_image := Cert.Pre_unit_image.Gen.facts) := fun m ρ _ => Cert.KernelIdeal.Gen.frame m ρ

/-- The idealized reference runs and leaves its arguments alone. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- And it does so under the precondition. -/
theorem frame_reference_finite : Cert.quiescent_ReferenceIdeal_pre_finite_image (hReferenceIdeal := Cert.ReferenceIdeal.Gen.facts)
    (hPre_finite_image := Cert.Pre_finite_image.Gen.facts) := fun m ρ _ => frame_reference m ρ trivial

/-- Each named constant stands for the real number the kernel's word rounds. -/
theorem preserves : Cert.preserves_Kernel_KernelIdeal := by
  refine ⟨?_, ?_, ?_, ?_, ?_, ?_, ?_, ?_, ?_, ?_, ?_, ?_, ?_, ?_, ?_⟩ <;> exact IdealRules.named_const.statement _ _ _ _ _ rfl

/-- From equal arguments that are finite, with intensities that are not negative, the idealized kernel and the idealized
    reference end with equal results. -/
theorem algebraic : Cert.algebraic_KernelIdeal_ReferenceIdeal_pre_finite_image (hKernelIdeal := Cert.KernelIdeal.Gen.facts)
    (hReferenceIdeal := Cert.ReferenceIdeal.Gen.facts) (hPre_finite_image := Cert.Pre_finite_image.Gen.facts) := by
  intro m g m' g' hpre hagree
  refine ⟨fun c => kernelOut (argU m c) (argI m c) (argS m c) (argB m c) (argC m c), run m g, ?_⟩
  refine (θ_run Cert.ReferenceIdeal.defs _ _).mono (fun _ h c => ⟨(h c).1.trans ?_, (h c).2⟩) (Cert.ReferenceIdeal.Value.run m' g')
  obtain ⟨e0, e1, e2, e3, e4⟩ := hagree c
  exact reference_eq _ (finite_of_pre m hpre c) e0 e1 e2 e3 e4

/-- For intensities in [0, 1] and weights of bounded size the idealized kernel ends within 1/128 of the exact update. -/
theorem within : Cert.holds_KernelIdeal_close_pre_unit_image (hKernelIdeal := Cert.KernelIdeal.Gen.facts)
    (hPre_unit_image := Cert.Pre_unit_image.Gen.facts) (hPost_close := Cert.Post_close.Gen.facts) := by
  intro m g hpre
  refine (θ_run Cert.KernelIdeal.defs _ _).mono (fun r h c => ?_) (run m g)
  obtain ⟨ho, h0, h1, h2, h3, h4⟩ := h c
  refine ⟨h0, h1, h2, h3, h4, ?_⟩
  rw [ho]
  exact close_kernelOut (bounded_of_pre m hpre c)

end Cert.Crf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_image
public import proofs.«01_k».proof.Proof.Gen.Pre_unit_image
public import proofs.«01_k».proof.Proof.Gen.Post_close
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Pre_finite_image.Gen.facts, Cert.Pre_unit_image.Gen.facts, Cert.Post_close.Gen.facts,
  Cert.Crf.frame_kernel, Cert.Crf.frame_ideal, Cert.Crf.frame_ideal_finite, Cert.Crf.frame_ideal_unit, Cert.Crf.frame_reference,
  Cert.Crf.frame_reference_finite, Cert.Crf.preserves, Cert.Crf.algebraic, Cert.Crf.within⟩

end Cert.Proof

end
